-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x16x64 : S_.BroadcastsInDim S2x128x16x64 (![] : Fin 0 → Fin S2x128x16x64.rank)

variable [Facts]

def fn {F : FTy → Type} [FloatOps F] (main_arg0 : FVec F S2x128x512 .f32) (main_arg1 : FVec F S512x256 .f32) (main_arg2 : FVec F S2x128x16x64 .f32) (main_arg3 : FVec F S2x128x16x64 .f32) (main_arg4 : FVec F S256x512 .f32) : IVec S2x128x512 1 × IVec S512x256 1 × IVec S2x128x16x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x128x16x64 .f32 := Host.absf main_arg2
  let main_cst_1 : FVec F S_ .f32 := constant S_ .f32 0x7F800000#32
  let main_v7 : FVec F S2x128x16x64 .f32 := broadcastInDim S2x128x16x64 ![] bcast_S_S2x128x16x64 main_cst_1
  let main_v8 : IVec S2x128x16x64 1 := cmpf .olt main_v6 main_v7
  (main_v2, main_v5, main_v8)
-- ==== Pre_scores_finite_ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S_ : Shape := ⟨0, ![]⟩

class Facts : Prop where
  bcast_S_S2x128x512 : S_.BroadcastsInDim S2x128x512 (![] : Fin 0 → Fin S2x128x512.rank)
  bcast_S_S512x1024 : S_.BroadcastsInDim S512x1024 (![] : Fin 0 → Fin S512x1024.rank)
  bcast_S_S2x128x16x64 : S_.BroadcastsInDim S2x128x16x64 (![] : Fin 0 → Fin S2x128x16x64.rank)

variable [Facts]

def fn {F : FTy → Type} [FloatOps F] (main_arg0 : FVec F S2x128x512 .f32) (main_arg1 : FVec F S512x1024 .f32) (main_arg2 : FVec F S2x128x16x64 .f32) (main_arg3 : FVec F S2x128x16x64 .f32) (main_arg4 : FVec F S1024x512 .f32) : IVec S2x128x512 1 × IVec S512x1024 1 × IVec S2x128x16x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x1024 .f32 := Host.absf main_arg1
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S2x128x16x64 .f32 := Host.absf main_arg2
  let main_cst_1 : FVec F S_ .f32 := constant S_ .f32 0x7F800000#32
  let main_v7 : FVec F S2x128x16x64 .f32 := broadcastInDim S2x128x16x64 ![] bcast_S_S2x128x16x64 main_cst_1
  let main_v8 : IVec S2x128x16x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩
abbrev S2x128x4x64 : Shape := ⟨4, ![2, 128, 4, 64]⟩
abbrev S256x256 : Shape := ⟨2, ![256, 256]⟩
abbrev S128x256 : Shape := ⟨2, ![128, 256]⟩
abbrev S2x2 : Shape := ⟨2, ![2, 2]⟩
abbrev S128x64 : Shape := ⟨2, ![128, 64]⟩
abbrev S64x64 : Shape := ⟨2, ![64, 64]⟩
abbrev S64 : Shape := ⟨1, ![64]⟩
abbrev S64x1 : Shape := ⟨2, ![64, 1]⟩
abbrev S64x128 : Shape := ⟨2, ![64, 128]⟩
abbrev S128x512 : Shape := ⟨2, ![128, 512]⟩
abbrev S1x128x512 : Shape := ⟨3, ![1, 128, 512]⟩
abbrev S1x1 : Shape := ⟨2, ![1, 1]⟩

abbrev nBuf : Space → Nat
  | .hbm => 38
  | .vmem => 11
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x16x64, .f32⟩
  | .hbm, ⟨3, _⟩ => ⟨S2x128x16x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .f32⟩
  | .hbm, ⟨33, _⟩ => ⟨S256x512, .f32⟩
  | .hbm, ⟨34, _⟩ => ⟨S256x256, .f32⟩
  | .hbm, ⟨35, _⟩ => ⟨S256x256, .f32⟩
  | .hbm, ⟨36, _⟩ => ⟨S256x512, .f32⟩
  | .hbm, ⟨37, _⟩ => ⟨S2x128x512, .f32⟩
  | .local _ .vmem, ⟨0, _⟩ => ⟨S256x512, .f32⟩
  | .local _ .vmem, ⟨1, _⟩ => ⟨S512x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S128x256, .bf16⟩
  | .local _ .vmem, ⟨7, _⟩ => ⟨S2x128x512, .bf16⟩
  | .local _ .vmem, ⟨8, _⟩ => ⟨S2x128x512, .bf16⟩
  | .local _ .vmem, ⟨9, _⟩ => ⟨S2x128x512, .bf16⟩
  | .local _ .vmem, ⟨10, _⟩ => ⟨S2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_90 : BitVec 32 := 1#32
  let v218 : BitVec 32 := Scalar.muli v3 c1_i32_90
  let v219 : BitVec 32 := Scalar.addi c0_i32_91 v218
  v219.toNat
def k0_dev4 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_173 : BitVec 32 := 1#32
  let v419 : BitVec 32 := Scalar.muli v3 c1_i32_173
  let v420 : BitVec 32 := Scalar.addi c0_i32_174 v419
  v420.toNat
def k0_dev5 (d0 : Dev nD) : Nat :=
  let c0_i32_219 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_218 : BitVec 32 := 1#32
  let v454 : BitVec 32 := Scalar.muli v4 c1_i32_218
  let v455 : BitVec 32 := Scalar.addi c0_i32_219 v454
  v455.toNat
def k0_dev6 (d0 : Dev nD) : Nat :=
  let c0_i32_264 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_263 : BitVec 32 := 1#32
  let v489 : BitVec 32 := Scalar.muli v4 c1_i32_263
  let v490 : BitVec 32 := Scalar.addi c0_i32_264 v489
  v490.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 89
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x1024, .f32⟩
  | .hbm, ⟨2, _⟩ => ⟨S2x128x16x64, .f32⟩
  | .hbm, ⟨3, _⟩ => ⟨S2x128x16x64, .f32⟩
  | .hbm, ⟨4, _⟩ => ⟨S1024x512, .f32⟩
  | .hbm, ⟨5, _⟩ => ⟨S2x128x1024, .f32⟩
  | .hbm, ⟨6, _⟩ => ⟨S2x128x16x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S2x16x128x128, .f32⟩
  | .hbm, ⟨51, _⟩ => ⟨S_, .f32⟩
  | .hbm, ⟨52, _⟩ => ⟨S2x16x128x128, .f32⟩
  | .hbm, ⟨53, _⟩ => ⟨S2x16x128x128, .f32⟩
  | .hbm, ⟨54, _⟩ => ⟨S1x1x128x128, .i1⟩
  | .hbm, ⟨55, _⟩ => ⟨S_, .f32⟩
  | .hbm, ⟨56, _⟩ => ⟨S_, .f32⟩
  | .hbm, ⟨57, _⟩ => ⟨S2x16x128x128, .i1⟩
  | .hbm, ⟨58, _⟩ => ⟨S2x16x128x128, .f32⟩
  | .hbm, ⟨59, _⟩ => ⟨S2x16x128x128, .f32⟩
  | .hbm, ⟨60, _⟩ => ⟨S_, .f32⟩
  | .hbm, ⟨61, _⟩ => ⟨S2x16x128, .f32⟩
  | .hbm, ⟨62, _⟩ => ⟨S2x16x128x1, .f32⟩
  | .hbm, ⟨63, _⟩ => ⟨S2x16x128x128, .f32⟩
  | .hbm, ⟨64, _⟩ => ⟨S2x16x128x128, .f32⟩
  | .hbm, ⟨65, _⟩ => ⟨S2x16x128x128, .f32⟩
  | .hbm, ⟨66, _⟩ => ⟨S_, .i1⟩
  | .hbm, ⟨67, _⟩ => ⟨S128, .i1⟩
  | .hbm, ⟨68, _⟩ => ⟨S1x1x128x1, .i1⟩
  | .hbm, ⟨69, _⟩ => ⟨S_, .f32⟩
  | .hbm, ⟨70, _⟩ => ⟨S2x16x128, .f32⟩
  | .hbm, ⟨71, _⟩ => ⟨S2x16x128x1, .f32⟩
  | .hbm, ⟨72, _⟩ => ⟨S_, .f32⟩
  | .hbm, ⟨73, _⟩ => ⟨S_, .f32⟩
  | .hbm, ⟨74, _⟩ => ⟨S2x16x128x1, .i1⟩
  | .hbm, ⟨75, _⟩ => ⟨S2x16x128x1, .f32⟩
  | .hbm, ⟨76, _⟩ => ⟨S2x16x128x1, .f32⟩
  | .hbm, ⟨77, _⟩ => ⟨S2x16x128x128, .f32⟩
  | .hbm, ⟨78, _⟩ => ⟨S2x16x128x128, .f32⟩
  | .hbm, ⟨79, _⟩ => ⟨S1x1x128x1, .i1⟩
  | .hbm, ⟨80, _⟩ => ⟨S_, .f32⟩
  | .hbm, ⟨81, _⟩ => ⟨S_, .f32⟩
  | .hbm, ⟨82, _⟩ => ⟨S2x16x128x128, .i1⟩
  | .hbm, ⟨83, _⟩ => ⟨S2x16x128x128, .f32⟩
  | .hbm, ⟨84, _⟩ => ⟨S2x16x128x128, .f32⟩
  | .hbm, ⟨85, _⟩ => ⟨S2x16x64x128, .f32⟩
  | .hbm, ⟨86, _⟩ => ⟨S2x128x16x64, .f32⟩
  | .hbm, ⟨87, _⟩ => ⟨S2x128x1024, .f32⟩
  | .hbm, ⟨88, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KernelIdeal.Values.lean ====
/-
  The values the kernel computes on one device, as functions of the arrays its windows stage, and what every device
  sends and receives: nothing here mentions the machine.
-/
module

public import proofs.«01_k».proof.Proof.Gen.KernelIdeal.Skeleton
public import Idealize.ShloMosaic.Lib.ValueIdxCore

@[expose] public section

noncomputable section

namespace Cert.KernelIdeal.Run

open Idealize.ShloMosaic
open Idealize.ShloMosaic.ValueIdx
open Cert.KernelIdeal.Gen

variable {F : FTy → Type} [FloatOps F]

/-- The five arrays one device's kernel reads: the tokens, its block of the query weights, its heads of the keys and of
    the values, and its block of the output weights. -/
structure Ins (F : FTy → Type) where
  x : Vec F S256x512 .f32
  w : Vec F S512x256 .f32
  k : Vec F S256x256 .f32
  v : Vec F S256x256 .f32
  o : Vec F S256x512 .f32

namespace Ins

variable (I : Ins F)

abbrev q : FVec F S256x256 .bf16 := k0_pay2 I.x I.w
abbrev kk : FVec F S256x256 .bf16 := k0_pay3 I.k
abbrev vv : FVec F S256x256 .bf16 := k0_pay4 I.v
abbrev oo : FVec F S256x512 .bf16 := k0_pay5 I.o

/-- The zeros a product is accumulated onto. -/
abbrev z64 : FVec F S64x64 .f32 := constant S64x64 .f32 0x00000000#32

/-- The attention of one head's half of the queries of batch 0: rows of half `h`, head `n` of the device. -/
def blk0 : Fin 2 → Fin 4 → FVec F S64x64 .bf16
  | 0, 0 => k0_pay11 (k0_pay8 I.x I.w) (k0_pay9 I.k) (k0_pay10 I.v) z64
  | 1, 0 => k0_pay12 I.q (k0_pay6 I.k) (k0_pay7 I.v)
  | 0, 1 => k0_pay15 I.q (k0_pay13 I.kk) (k0_pay14 I.vv)
  | 1, 1 => k0_pay17 (k0_pay16 I.q (k0_pay13 I.kk) (k0_pay14 I.vv))
  | 0, 2 => k0_pay20 I.q I.kk I.vv
  | 1, 2 => k0_pay22 (k0_pay21 I.q I.kk I.vv)
  | 0, 3 => k0_pay25 I.q I.kk I.vv
  | 1, 3 => k0_pay29 (k0_pay24 I.vv) (k0_pay27 I.q I.kk) (k0_pay28 I.q I.kk) z64

/-- The same for batch 1. -/
def blk1 : Fin 2 → Fin 4 → FVec F S64x64 .bf16
  | 0, 0 => k0_pay36 (k0_pay34 I.vv) (k0_pay35 I.q I.kk)
  | 1, 0 => k0_pay37 I.q (k0_pay32 I.kk) (k0_pay33 I.vv)
  | 0, 1 => k0_pay43 (k0_pay40 I.q) (k0_pay41 I.kk) (k0_pay42 I.vv) z64
  | 1, 1 => k0_pay44 I.q (k0_pay38 I.kk) (k0_pay39 I.vv)
  | 0, 2 => k0_pay47 I.q (k0_pay45 I.kk) (k0_pay46 I.vv)
  | 1, 2 => k0_pay49 (k0_pay48 I.q (k0_pay45 I.kk) (k0_pay46 I.vv))
  | 0, 3 => k0_pay52 I.q I.kk I.vv
  | 1, 3 => k0_pay54 (k0_pay53 I.q I.kk I.vv)

end Ins

/-- A 128 x 256 array put together from its eight 64 x 64 blocks. -/
def tiled (b : Fin 2 → Fin 4 → Vec F S64x64 .bf16) : Vec F S128x256 .bf16 := fun j =>
  b ⟨(j 0).val / 64, Nat.div_lt_of_lt_mul (j 0).isLt⟩ ⟨(j 1).val / 64, Nat.div_lt_of_lt_mul (j 1).isLt⟩
    (ix2 ⟨(j 0).val % 64, Nat.mod_lt _ (by decide)⟩ ⟨(j 1).val % 64, Nat.mod_lt _ (by decide)⟩)

namespace Ins

variable (I : Ins F)

/-- The attention of all four heads of one batch. -/
def ctx0 : Vec F S128x256 .bf16 := tiled I.blk0
def ctx1 : Vec F S128x256 .bf16 := tiled I.blk1

/-- A device's own part of the result, batch by batch; -/
def own : Fin 2 → FVec F S128x512 .f32
  | 0 => k0_pay30 I.oo I.ctx0
  | 1 => k0_pay55 I.oo I.ctx1
/-- and as it is sent. -/
def ownSent : Fin 2 → FVec F S1x128x512 .bf16
  | 0 => k0_pay31 I.oo I.ctx0
  | 1 => k0_pay56 I.oo I.ctx1

end Ins

/-- The first partner of a device: the device whose number differs in the lowest bit. -/
def p1 (c : Dev nD) : Dev nD := ⟨c.val ^^^ 1, by revert c; decide⟩
/-- The second partner: the device counted from the other end. -/
def p2 (c : Dev nD) : Dev nD := ⟨3 - c.val, by revert c; decide⟩
theorem p1_p1 (c : Dev nD) : p1 (p1 c) = c := by revert c; decide
theorem p2_p2 (c : Dev nD) : p2 (p2 c) = c := by revert c; decide
theorem p1_ne_p2 (c : Dev nD) : p1 c ≠ p2 c := by revert c; decide
theorem p2_ne_p1 (c : Dev nD) : p2 c ≠ p1 c := by revert c; decide
def e1 : Dev nD ≃ Dev nD := ⟨p1, p1, p1_p1, p1_p1⟩
def e2 : Dev nD ≃ Dev nD := ⟨p2, p2, p2_p2, p2_p2⟩

/-- The partner of round `j`. -/
def pr : Fin 2 → Dev nD → Dev nD
  | 0 => p1
  | 1 => p2
theorem pr_pr (j : Fin 2) (c : Dev nD) : pr j (pr j c) = c := by revert j c; decide

section
variable (I : Dev nD → Ins F)

/-- After the first exchange, device `c` holds the sum of its own part and its first partner's; -/
def pair (c : Dev nD) : Fin 2 → FVec F S128x512 .f32
  | 0 => k0_pay57 ((I c).own 0) ((I (p1 c)).ownSent 0)
  | 1 => k0_pay61 (k0_pay59 ((I c).own 1)) (k0_pay60 ((I (p1 c)).ownSent 1))
/-- as it is sent; -/
def pairSent (c : Dev nD) : Fin 2 → FVec F S1x128x512 .bf16
  | 0 => k0_pay58 ((I c).own 0) ((I (p1 c)).ownSent 0)
  | 1 => k0_pay62 (k0_pay59 ((I c).own 1)) (k0_pay60 ((I (p1 c)).ownSent 1))
/-- and after the second exchange the sum of all four. -/
def fin (c : Dev nD) : Fin 2 → FVec F S128x512 .f32
  | 0 => k0_pay63 (pair I c 0) (pairSent I (p2 c) 0)
  | 1 => k0_pay1 (pair I c 1) (pairSent I (p2 c) 1)

/-- What device `d` sends in round `j` for batch `b`. -/
def sent (d : Dev nD) : Fin 2 → Fin 2 → FVec F S1x128x512 .bf16
  | 0, b => (I d).ownSent b
  | 1, b => pairSent I d b

/-- The result of device `c`: the rows of batch 0, then those of batch 1. -/
def result (c : Dev nD) : Vec F S256x512 .f32 := fun j =>
  fin I c ⟨(j 0).val / 128, Nat.div_lt_of_lt_mul (j 0).isLt⟩
    (ix2 ⟨(j 0).val % 128, Nat.mod_lt _ (by decide)⟩ ⟨(j 1).val, (j 1).isLt⟩)

end

end Cert.KernelIdeal.Run
-- ==== Proof.KernelIdeal.Slots.lean ====
/-
  The two halves of a staging or landing buffer: each is copied on its own, so each is held on its own.
-/
module

public import proofs.«01_k».proof.Proof.KernelIdeal.Values
public import proofs.«01_k».proof.Proof.Gen.KernelIdeal.Launch
public import Idealize.ShloMosaic.Lib.Pipeline.Value
public import Idealize.ShloMosaic.Lib.Writes
public import Idealize.ShloMosaic.Lib.Tactic

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

abbrev Big := Memref sig .tc .vmem S2x128x512 .bf16

theorem inbSlot (b : Fin 2) : ∀ a, (![b.val, 0, 0] : Fin 3 → Nat) a + S1x128x512.size a ≤ S2x128x512.size a := by
  revert b; decide

/-- Batch `b`'s half of a two-batch buffer, as the rectangle a load or store names, -/
abbrev rect (b : Fin 2) : Rect S2x128x512 := Rect.unit (s := S2x128x512) ![b.val, 0, 0] S1x128x512.size (inbSlot b)
/-- and as the memory a copy names. -/
abbrev slot (M : Big) (b : Fin 2) : Memref sig .tc .vmem S128x512 .bf16 :=
  (M.slice (rect b) (fun _ => rfl)).squeeze S128x512 squeezes_S1x128x512_S128x512

/-- What a load of half `b` reads. -/
abbrev rd (M : Big) (b : Fin 2) (f : M.view.ty.Contents (Elt F)) : Vec F S1x128x512 .bf16 :=
  M.view.readAt (Elt F) (rect b).toLoadRect f

theorem slot_set (M : Big) (b : Fin 2) : (slot M b).view.set = (M.access (rect b)).set := View.set_reshape _ _

theorem slot_read (M : Big) (b : Fin 2) (f : M.view.ty.Contents (Elt F)) :
    (slot M b).view.read (Elt F) f = shapeCast S128x512 (rd M b f) shapeCasts_S1x128x512_S128x512 := rfl

/-- A copy of half `b` of one buffer into half `b` of another leaves there what a load of the first would read. -/
theorem rd_copy (M M' : Big) (b : Fin 2) (fs : M.view.ty.Contents (Elt F)) (fd : M'.view.ty.Contents (Elt F)) :
    rd M' b ((slot M' b).view.write (Elt F) fd ((slot M b).view.read (Elt F) fs) Finset.univ) = rd M b fs := by
  have h : shapeCast S128x512 (rd M' b ((slot M' b).view.write (Elt F) fd ((slot M b).view.read (Elt F) fs) Finset.univ))
      shapeCasts_S1x128x512_S128x512 = shapeCast S128x512 (rd M b fs) shapeCasts_S1x128x512_S128x512 := by
    rw [← slot_read, ← slot_read]; exact View.read_write_univ _ _
  have hb : S128x512.ShapeCasts S1x128x512 := by decide
  have := congrArg (fun x => shapeCast S1x128x512 x hb) h
  simpa only [shapeCast_shapeCast, shapeCast_self] using this

/-- A load of half `b` after a store to it reads what was stored. -/
theorem rd_store (M : Big) (b : Fin 2) (f : M.view.ty.Contents (Elt F)) (w : Vec F S1x128x512 .bf16) :
    rd M b ((M.access (rect b)).write (Elt F) f w Finset.univ) = w := View.read_write_univ _ _

theorem rect_disjoint : Disjoint (rect 0).set (rect 1).set := by
  rw [Finset.disjoint_left]
  intro i h0 h1
  have a0 := (Rect.mem_set_unit.mp h0) 0
  have a1 := (Rect.mem_set_unit.mp h1) 0
  have b0 : (i 0).val < 0 + 1 := a0.2
  have b1 : 1 ≤ (i 0).val := a1.1
  omega

theorem rect_union : (rect 0).set ∪ (rect 1).set = Finset.univ := by
  refine Finset.eq_univ_of_forall fun i => Finset.mem_union.mpr ?_
  have h0 : (i 0).val < 2 := (i 0).isLt
  have h1 : (i 1).val < 128 := (i 1).isLt
  have h2 : (i 2).val < 512 := (i 2).isLt
  rcases (by omega : (i 0).val = 0 ∨ (i 0).val = 1) with h | h
  · exact .inl (Rect.mem_set_unit.mpr fun a => match a with
      | ⟨0, _⟩ => ⟨Nat.zero_le _, show (i 0).val < 0 + 1 by omega⟩
      | ⟨1, _⟩ => ⟨Nat.zero_le _, show (i 1).val < 0 + 128 by omega⟩
      | ⟨2, _⟩ => ⟨Nat.zero_le _, show (i 2).val < 0 + 512 by omega⟩)
  · exact .inr (Rect.mem_set_unit.mpr fun a => match a with
      | ⟨0, _⟩ => ⟨show 1 ≤ (i 0).val by omega, show (i 0).val < 1 + 1 by omega⟩
      | ⟨1, _⟩ => ⟨Nat.zero_le _, show (i 1).val < 0 + 128 by omega⟩
      | ⟨2, _⟩ => ⟨Nat.zero_le _, show (i 2).val < 0 + 512 by omega⟩)

theorem slot_disjoint (M : Big) : Disjoint (slot M 0).view.set (slot M 1).view.set := by
  rw [slot_set, slot_set]
  show Disjoint (M.view.slice (rect 0)).set (M.view.slice (rect 1)).set
  rw [View.set_slice, View.set_slice]
  exact (Finset.disjoint_map _).mpr rect_disjoint

theorem slot_union (M : Big) : (slot M 0).view.set ∪ (slot M 1).view.set = M.view.set := by
  rw [slot_set, slot_set]
  show (M.view.slice (rect 0)).set ∪ (M.view.slice (rect 1)).set = M.view.set
  rw [View.set_slice, View.set_slice, ← Finset.map_union, rect_union]
  rfl

local notation "𝕄" => MT nD τ sig Unit (Elt F) ℕ (Rounds.URounds (GSem nD τ sig) Unit × Rounds.URounds (GSem nD τ sig) (Fin 2)) ℕ

/-- Half `b` of device `c`'s buffer, held at contents `f`. -/
abbrev slotPts (M : Big) (b : Fin 2) (c : Dev nD) (f : Buf (Elt F) ((slot M b).view.loc (c : Thread nD τ))) : sProp 𝕄 :=
  (slot M b).view.loc (c : Thread nD τ) ↦[(slot M b).view.set]{fullShare} f

/-- The same at contents not chosen. -/
abbrev slotAny (M : Big) (b : Fin 2) (c : Dev nD) : sProp 𝕄 := iprop(∃ f, slotPts (F := F) M b c f)

/-- A whole buffer is its two halves, -/
theorem slots_split (M : Big) (hM : M.view.set = Finset.univ) (c : Dev nD) (f : Buf (Elt F) (M.view.loc (c : Thread nD τ))) :
    (M.view.loc (c : Thread nD τ) ↦{fullShare} f) ⊢ (iprop(slotPts M 0 c f ∗ slotPts M 1 c f) : sProp 𝕄) := by
  have h : (M.view.loc (c : Thread nD τ) ↦{fullShare} f : sProp 𝕄)
      = (M.view.loc (c : Thread nD τ) ↦[(slot M 0).view.set ∪ (slot M 1).view.set]{fullShare} f) := by
    rw [slot_union, hM]
  rw [h]
  exact (pointsTo_union (slot_disjoint M)).1

/-- and the halves, whatever each holds, make the whole. -/
theorem slots_join (M : Big) (hM : M.view.set = Finset.univ) (c : Dev nD) :
    (iprop(slotAny (F := F) M 0 c ∗ slotAny (F := F) M 1 c) : sProp 𝕄)
      ⊢ iprop(∃ f : Buf (Elt F) (M.view.loc (c : Thread nD τ)), M.view.loc (c : Thread nD τ) ↦{fullShare} f) := by
  iintro ⟨⟨%f, H0⟩, ⟨%g, H1⟩⟩
  ihave H := (pointsTo_join (ℓ := M.view.loc (c : Thread nD τ)) (I := (slot M 0).view.set) (J := (slot M 1).view.set) (q := fullShare) (f := f) (g := g) (slot_disjoint M)) $$ [H0 H1]
  · isplitl [H0]
    · iexact H0
    · iexact H1
  iexists ((slot M 1).view.set.piecewise g f)
  have h : (M.view.loc (c : Thread nD τ) ↦[(slot M 0).view.set ∪ (slot M 1).view.set]{fullShare} ((slot M 1).view.set.piecewise g f) : sProp 𝕄)
      = (M.view.loc (c : Thread nD τ) ↦{fullShare} ((slot M 1).view.set.piecewise g f)) := by
    rw [slot_union, hM]
  ihave H := (Entails.of_eq h) $$ H
  iexact H

/-- A load or store of half `b` stays within what is held of half `b`. -/
theorem slot_load_sub (M : Big) (b : Fin 2) : M.view.setOn (rect b).toLoadRect.set ⊆ (slot M b).view.set := by
  rw [slot_set]
  show M.view.setOn (rect b).toLoadRect.set ⊆ (M.view.slice (rect b)).set
  rw [View.set_slice]; exact subset_of_eq rfl
theorem slot_store_sub (M : Big) (b : Fin 2) : (M.access (rect b)).setOn Finset.univ ⊆ (slot M b).view.set := by
  rw [slot_set]; exact subset_of_eq rfl

end Cert.KernelIdeal.Run
-- ==== Proof.KernelIdeal.Protocol.lean ====
/-
  The protocol of the two exchanges: one barrier cell per device, raised once by each partner, and per device eight cells
  of its own, one send and one receive cell for every round and batch. Each is used in round 0 only.
-/
module

public import proofs.«01_k».proof.Proof.KernelIdeal.Slots
public import Idealize.ShloMosaic.Lib.Rounds
public import Idealize.ShloMosaic.Lib.Pipeline.RegionTalk

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The two halves of the user algebra: the pipeline's, and the exchange's with one duty per partner. -/
abbrev UU : Type := URounds (GSem nD τ sig) Unit × URounds (GSem nD τ sig) (Fin 2)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Fin 2)) (MT nD τ sig Unit (Elt F) ℕ UU ℕ) := embR

/-- The buffers of the exchange: what a round sends from, -/
abbrev s1 : Big := Memref.whole cc0_scratch1
abbrev r1 : Big := Memref.whole cc0_scratch2
abbrev s2 : Big := Memref.whole cc0_scratch3
abbrev r2 : Big := Memref.whole cc0_scratch4
abbrev src : Fin 2 → Big
  | 0 => s1
  | 1 => s2
/-- and what it lands in. -/
abbrev dst : Fin 2 → Big
  | 0 => r1
  | 1 => r2

abbrev barS : Sem sig := (SemArray.scalar (sig.barrier 0 rfl) : Sems sig S_).sem
theorem lt_dma (k : Fin 8) : 6 + k.val < sig.nDmaSem := by revert k; decide
abbrev osem (k : Fin 8) : SemLoc sig := .dma ⟨6 + k.val, lt_dma k⟩
abbrev sk (j b : Fin 2) : Fin 8 := ⟨2 * j.val + b.val, by omega⟩
abbrev rk (j b : Fin 2) : Fin 8 := ⟨4 + (2 * j.val + b.val), by omega⟩

abbrev barCell (c : Dev nD) : GSem nD τ sig := ((c : Thread nD τ), .reg barS)
abbrev ownCell (k : Fin 8) (c : Dev nD) : GSem nD τ sig := ((c : Thread nD τ), osem k)
abbrev sendCell (j b : Fin 2) (c : Dev nD) : GSem nD τ sig := ownCell (sk j b) c
abbrev recvCell (j b : Fin 2) (c : Dev nD) : GSem nD τ sig := ownCell (rk j b) c

/-- What one copy of a half raises its cells by. -/
abbrev N : ℕ := (slot r1 0).view.dmaCredit
theorem N_pos : 0 < N := View.dmaCredit_pos _ (by decide)

variable (I : Dev nD → Ins F)

/-- Paid to device `c`'s barrier cell by its partner of round `j`: the partner's landing buffer, both halves, and that its
    receive cells of that round are open. -/
def barPay (c : Dev nD) (j : Fin 2) : sProp 𝕄 :=
  iprop(slotAny (F := F) (dst j) 0 (pr j c) ∗ slotAny (F := F) (dst j) 1 (pr j c)
    ∗ reached ER (recvCell j 0 (pr j c)) 0 ∗ reached ER (recvCell j 1 (pr j c)) 0)
/-- Paid to device `c`'s receive cell by its partner's copy: `c`'s half back, holding what the partner sends. -/
def recvPay (j b : Fin 2) (c : Dev nD) : sProp 𝕄 :=
  iprop(∃ f, ⌜rd (dst j) b f = sent I (pr j c) j b⌝ ∗ slotPts (F := F) (dst j) b c f)
/-- Paid to a send cell: the half that was sent, back. -/
def sendPay (j b : Fin 2) (c : Dev nD) : sProp 𝕄 := slotAny (F := F) (src j) b c

/-- The payload of device `c`'s own cell `k`. -/
def ownPay : Fin 8 → Dev nD → sProp 𝕄
  | 0 => sendPay 0 0
  | 1 => sendPay 0 1
  | 2 => sendPay 1 0
  | 3 => sendPay 1 1
  | 4 => recvPay I 0 0
  | 5 => recvPay I 0 1
  | 6 => recvPay I 1 0
  | 7 => recvPay I 1 1

/-- The number of the own cell a semaphore is, if it is one. -/
def ownOf (k : DmaSem sig) : Fin 8 := Fin.ofNat 8 (k.val - 6)
theorem ownOf_osem (k : Fin 8) : ownOf ⟨6 + k.val, lt_dma k⟩ = k := by revert k; decide

def talkRd : Rounds.Schedule (GSem nD τ sig) (Fin 2) 𝕄 where
  duties g r := if r = 0 ∧ g.1.2 = .tc then
    (match g.2 with
      | .reg _ => {0, 1}
      | .dma k => if 6 ≤ k.val then {0} else ∅) else ∅
  unitless _ := False
  amount g _ _ := match g.2 with
    | .reg _ => 1
    | .dma _ => N
  payload g _ d := match g.2 with
    | .reg _ => barPay g.1.1 d
    | .dma k => ownPay I (ownOf k) g.1.1
  amount_pos g _ _ _ := by
    rcases g with ⟨t, s | s⟩
    · exact Nat.one_pos
    · exact N_pos

instance slotAny_storable (M : Big) (b : Fin 2) (c : Dev nD) : BI.Storable (upEmb : UEmb _ 𝕄) (slotAny (F := F) M b c) := by
  infer_instance
instance sendPay_storable (j b : Fin 2) (c : Dev nD) : BI.Storable (upEmb : UEmb _ 𝕄) (sendPay (F := F) j b c) := by
  unfold sendPay; infer_instance
instance recvPay_storable (j b : Fin 2) (c : Dev nD) : BI.Storable (upEmb : UEmb _ 𝕄) (recvPay I j b c) := by
  unfold recvPay; infer_instance
instance barPay_storable (c : Dev nD) (j : Fin 2) : BI.Storable (upEmb : UEmb _ 𝕄) (barPay (F := F) c j) := by
  unfold barPay; infer_instance

theorem ownPay_storable (k : Fin 8) (c : Dev nD) : BI.Storable (upEmb : UEmb _ 𝕄) (ownPay I k c) :=
  match k with
  | 0 => sendPay_storable 0 0 c
  | 1 => sendPay_storable 0 1 c
  | 2 => sendPay_storable 1 0 c
  | 3 => sendPay_storable 1 1 c
  | 4 => recvPay_storable I 0 0 c
  | 5 => recvPay_storable I 0 1 c
  | 6 => recvPay_storable I 1 0 c
  | 7 => recvPay_storable I 1 1 c

instance talkRd_payload_storable (g : GSem nD τ sig) (r : ℕ) (d : Fin 2) :
    BI.Storable (upEmb : UEmb _ 𝕄) ((talkRd I).payload g r d) :=
  match g with
  | (t, .reg _) => barPay_storable t.1 d
  | (t, .dma s) => ownPay_storable I (ownOf s) t.1

section Sched

variable (c : Dev nD) (k : Fin 8) (d : Fin 2)

theorem duties_bar : (talkRd I).duties (barCell c) 0 = {0, 1} := by dsimp only [talkRd]; exact if_pos ⟨rfl, rfl⟩
theorem duties_own : (talkRd I).duties (ownCell k c) 0 = {0} := by
  dsimp only [talkRd]; rw [if_pos ⟨rfl, rfl⟩]; exact if_pos (Nat.le_add_right _ _)
theorem duties_later (g : GSem nD τ sig) : ∀ r, 1 ≤ r → (talkRd I).duties g r = ∅ :=
  fun r hr => by dsimp only [talkRd]; rw [if_neg (fun h => by omega)]

theorem amount_bar : (talkRd I).amount (barCell c) 0 d = 1 := rfl
theorem amount_own : (talkRd I).amount (ownCell k c) 0 d = N := rfl

theorem expect_bar : (talkRd I).expect (barCell c) 0 = 2 := by
  unfold Schedule.expect Schedule.amountOf; rw [duties_bar]; rfl
theorem expect_own : (talkRd I).expect (ownCell k c) 0 = N := by
  unfold Schedule.expect Schedule.amountOf; rw [duties_own, Finset.sum_singleton, amount_own]

theorem payload_bar : (talkRd I).payload (barCell c) 0 d = barPay c d := rfl
theorem payload_own : (talkRd I).payload (ownCell k c) 0 d = ownPay I k c := by
  show ownPay I (ownOf ⟨6 + k.val, lt_dma k⟩) c = _; rw [ownOf_osem]

theorem rest_bar : bigSep ((talkRd I).duties (barCell c) 0 \ ∅) (fun d => (talkRd I).payload (barCell c) 0 d)
    = iprop(barPay c 0 ∗ barPay c 1) := by
  rw [Finset.sdiff_empty, duties_bar, bigSep_insert (by decide), bigSep_singleton]; rfl
theorem rest_own : bigSep ((talkRd I).duties (ownCell k c) 0 \ ∅) (fun d => (talkRd I).payload (ownCell k c) 0 d)
    = ownPay I k c := by
  rw [Finset.sdiff_empty, duties_own, bigSep_singleton, payload_own]

end Sched

/-! ## What each device owes, in the order it pays -/

def o5 (c : Dev nD) : CellTallies nD τ sig Unit := 0 + tallyAt (recvCell 1 1 (p2 c)) () N
def o4 (c : Dev nD) : CellTallies nD τ sig Unit := o5 c + tallyAt (recvCell 1 0 (p2 c)) () N
def o3 (c : Dev nD) : CellTallies nD τ sig Unit := o4 c + tallyAt (recvCell 0 1 (p1 c)) () N
def o2 (c : Dev nD) : CellTallies nD τ sig Unit := o3 c + tallyAt (recvCell 0 0 (p1 c)) () N
def o1 (c : Dev nD) : CellTallies nD τ sig Unit := o2 c + tallyAt (barCell (p2 c)) () 1
def O₀ (c : Dev nD) : CellTallies nD τ sig Unit := o1 c + tallyAt (barCell (p1 c)) () 1

def L (g : GSem nD τ sig) : Finset Unit := if g.1.2 = .tc then {()} else ∅
/-- The levels: barrier cells at 1, receive cells of the first round at 2 and of the second at 3, all else at 0. -/
def lv (g : GSem nD τ sig) (_ : Unit) : ℕ := match g.2 with
  | .reg _ => 1
  | .dma k => if k.val < 10 then 0 else if k.val < 12 then 2 else 3

theorem L_of_ne (g : GSem nD τ sig) (h : g.1.2 ≠ .tc) : L g = ∅ := if_neg h
theorem L_tc (c : Dev nD) (sm : SemLoc sig) : L ((c : Thread nD τ), sm) = {()} := if_pos rfl

/-- Every cell still owed on lies above `n`. -/
def Above (n : ℕ) (O : CellTallies nD τ sig Unit) : Prop := ∀ g (u : Unit), 0 < O g u → u ∈ L g ∧ n < lv g u

theorem Above.zero (n : ℕ) : Above n 0 := fun _ _ h => absurd h (Nat.lt_irrefl 0)
theorem Above.add {n : ℕ} {O : CellTallies nD τ sig Unit} (h : Above n O) (c : Dev nD) (sm : SemLoc sig) (k : ℕ)
    (hl : n < lv ((c : Thread nD τ), sm) ()) : Above n (O + tallyAt ((c : Thread nD τ), sm) () k) := by
  intro g u hg
  rw [Pi.add_apply, Finsupp.add_apply] at hg
  rcases Nat.add_pos_iff_pos_or_pos.mp hg with hg | hg
  · exact h g u hg
  · rw [tallyAt_apply] at hg
    split at hg
    · next e => rw [e.1]; exact ⟨by rw [L_tc]; exact Finset.mem_singleton_self _, hl⟩
    · exact absurd hg (Nat.lt_irrefl 0)
theorem Above.mono {n n' : ℕ} {O : CellTallies nD τ sig Unit} (h : Above n O) (hn : n' ≤ n) : Above n' O :=
  fun g u hg => ⟨(h g u hg).1, lt_of_le_of_lt hn (h g u hg).2⟩

theorem above5 (c : Dev nD) : Above 2 (o5 c) := (Above.zero 2).add _ _ _ (by show 2 < 3; decide)
theorem above4 (c : Dev nD) : Above 2 (o4 c) := (above5 c).add _ _ _ (by show 2 < 3; decide)
theorem above3 (c : Dev nD) : Above 1 (o3 c) := ((above4 c).mono (by decide)).add _ _ _ (by show 1 < 2; decide)
theorem above2 (c : Dev nD) : Above 1 (o2 c) := (above3 c).add _ _ _ (by show 1 < 2; decide)
theorem above1 (c : Dev nD) : Above 0 (o1 c) := ((above2 c).mono (by decide)).add _ _ _ (by show 0 < 1; decide)
theorem above0 (c : Dev nD) : Above 0 (O₀ c) := (above1 c).add _ _ _ (by show 0 < 1; decide)

/-- A device may wait on a cell that lies below everything it still owes on. -/
theorem mayWait {n : ℕ} {O : CellTallies nD τ sig Unit} (h : Above n O) (c : Dev nD) (sm : SemLoc sig)
    (hl : lv ((c : Thread nD τ), sm) () ≤ n) : (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => (h g u hg).1)
    (fun p hp => by rw [Finset.mem_singleton.mp hp]; exact hl)
    (fun g u hg => (h g u hg).2)

/-! ## The protocol's ghost state -/

def barEmb : Dev nD ↪ GSem nD τ sig := ⟨fun c => barCell c, fun _ _ h => congrArg (fun g : GSem nD τ sig => g.1.1) h⟩
theorem osem_inj : Function.Injective osem := by decide
theorem osem_ne_bar (k : Fin 8) : osem k ≠ .reg barS := fun h => by cases h
def ownEmb : Dev nD × Fin 8 ↪ GSem nD τ sig :=
  ⟨fun ck => ownCell ck.2 ck.1, fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- What every device may consult: every cell's invariant, and that round 0 of every barrier cell is reached. -/
def records (K : GSem nD τ sig → ℕ) : sProp 𝕄 :=
  iprop((bigSep (barCells ∪ ownCells) fun g => cellInv ER (talkRd I) (K g) g) ∗ bigSep barCells fun g => reached ER g 0)

instance records_persistent (K : GSem nD τ sig → ℕ) : BI.Persistent (records I K) := by unfold records; infer_instance

theorem inv_bar (K : GSem nD τ sig → ℕ) (c : Dev nD) : records I K ⊢ cellInv ER (talkRd I) (K (barCell c)) (barCell c) := by
  unfold records
  exact sep_elim_left.trans (bigSep_elim (Φ := fun g => cellInv ER (talkRd I) (K g) g)
    (Finset.mem_union_left _ (Finset.mem_map_of_mem barEmb (Finset.mem_univ c))))
theorem inv_own (K : GSem nD τ sig → ℕ) (k : Fin 8) (c : Dev nD) :
    records I K ⊢ cellInv ER (talkRd I) (K (ownCell k c)) (ownCell k c) := by
  unfold records
  exact sep_elim_left.trans (bigSep_elim (Φ := fun g => cellInv ER (talkRd I) (K g) g)
    (Finset.mem_union_right _ (Finset.mem_map_of_mem ownEmb (Finset.mem_univ (c, k)))))
theorem reached_bar (K : GSem nD τ sig → ℕ) (c : Dev nD) : records I K ⊢ reached ER (barCell c) 0 := by
  unfold records
  exact sep_elim_right.trans (bigSep_elim (Φ := fun g => reached ER g 0) (Finset.mem_map_of_mem barEmb (Finset.mem_univ c)))

/-- The tokens of the ten duties device `c` pays. -/
def payToks (c : Dev nD) : sProp 𝕄 :=
  iprop(dutyTok ER (barCell (p1 c)) 0 0 ∗ dutyTok ER (barCell (p2 c)) 0 1
    ∗ dutyTok ER (recvCell 0 0 (p1 c)) 0 0 ∗ dutyTok ER (recvCell 0 1 (p1 c)) 0 0
    ∗ dutyTok ER (recvCell 1 0 (p2 c)) 0 0 ∗ dutyTok ER (recvCell 1 1 (p2 c)) 0 0
    ∗ dutyTok ER (sendCell 0 0 c) 0 0 ∗ dutyTok ER (sendCell 0 1 c) 0 0
    ∗ dutyTok ER (sendCell 1 0 c) 0 0 ∗ dutyTok ER (sendCell 1 1 c) 0 0)

/-- The credit device `c` waits with. -/
def creds (c : Dev nD) : sProp 𝕄 :=
  iprop(cred (tallyAt (barCell c) () 2) ∗ cred (tallyAt (recvCell 0 0 c) () N) ∗ cred (tallyAt (recvCell 0 1 c) () N)
    ∗ cred (tallyAt (recvCell 1 0 c) () N) ∗ cred (tallyAt (recvCell 1 1 c) () N))

/-- From the launch to the kernel: the records, the place on the barrier cell, the rights to open the own cells, the tokens. -/
def ghost (K : GSem nD τ sig → ℕ) (c : Dev nD) : sProp 𝕄 :=
  iprop(records I K ∗ atPos ER (barCell c) 0 ∅ 0 ∗ (bigSep Finset.univ fun k : Fin 8 => openTok ER (ownCell k c)) ∗ payToks c)

/-- Inside the kernel: the own cells opened. -/
def opened (K : GSem nD τ sig → ℕ) (c : Dev nD) : sProp 𝕄 :=
  iprop(records I K ∗ atPos ER (barCell c) 0 ∅ 0
    ∗ (bigSep Finset.univ fun k : Fin 8 => iprop(atPos ER (ownCell k c) 0 ∅ 0 ∗ reached ER (ownCell k c) 0)) ∗ payToks c)

theorem open_one (K : GSem nD τ sig → ℕ) (k : Fin 8) (c : Dev nD) :
    iprop(records I K ∗ openTok ER (ownCell k c) ∗ semVal (ownCell k c) 0)
      ⊢ (|={Set.univ}=> (atPos ER (ownCell k c) 0 ∅ 0 ∗ reached ER (ownCell k c) 0) : sProp 𝕄) := by
  iintro ⟨#HR, Ho, Hs⟩
  iapply (Rounds.cell_open ER (talkRd I) (g := ownCell k c) (Set.mem_univ (K (ownCell k c))))
  isplitr
  · iapply (inv_own I K k c); iexact HR
  isplitl [Ho] <;> iassumption

/-- A cell whose round 0 is over gives its counter back, at zero. -/
theorem close_bar (K : GSem nD τ sig → ℕ) (c : Dev nD) :
    iprop(records I K ∗ atPos ER (barCell c) (0 + 1) ∅ 0) ⊢ (|={Set.univ}=> semVal (barCell c) 0 : sProp 𝕄) := by
  iintro ⟨#HR, H⟩
  iapply (Rounds.cell_close ER (talkRd I) (Set.mem_univ (K (barCell c))) id (duties_later I (barCell c)))
  isplitr
  · iapply (inv_bar I K c); iexact HR
  iexact H
theorem close_own (K : GSem nD τ sig → ℕ) (k : Fin 8) (c : Dev nD) :
    iprop(records I K ∗ atPos ER (ownCell k c) (0 + 1) ∅ 0) ⊢ (|={Set.univ}=> semVal (ownCell k c) 0 : sProp 𝕄) := by
  iintro ⟨#HR, H⟩
  iapply (Rounds.cell_close ER (talkRd I) (Set.mem_univ (K (ownCell k c))) id (duties_later I (ownCell k c)))
  isplitr
  · iapply (inv_own I K k c); iexact HR
  iexact H

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide),
    bigSep_insert (by decide), bigSep_insert (by decide), bigSep_insert (by decide), bigSep_insert (by decide), bigSep_insert (by decide),
    bigSep_singleton]
  rfl

abbrev 𝒱₀ : Variants := Variants.none

end Cert.KernelIdeal.Run
-- ==== Proof.KernelIdeal.Compute.lean ====
/-
  The stretches of the kernel between exchanges: the attention of one batch, block by block, into the scratch array.
-/
module

public import proofs.«01_k».proof.Proof.KernelIdeal.Protocol
public import Idealize.ShloMosaic.Lib.Tactic

@[expose] public section

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev xm : Memref sig .tc .vmem S256x512 .f32 := Memref.whole cc0_stg0_0
abbrev wm : Memref sig .tc .vmem S512x256 .f32 := Memref.whole cc0_stg1_0
abbrev km : Memref sig .tc .vmem S256x256 .f32 := Memref.whole cc0_stg2_0
abbrev vm : Memref sig .tc .vmem S256x256 .f32 := Memref.whole cc0_stg3_0
abbrev om : Memref sig .tc .vmem S256x512 .f32 := Memref.whole cc0_stg4_0
abbrev ym : Memref sig .tc .vmem S256x512 .f32 := Memref.whole cc0_stg5_0
abbrev cx : Memref sig .tc .vmem S128x256 .bf16 := Memref.whole cc0_scratch0

abbrev P1 := k0_part1 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P2 := k0_part2 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P3 := k0_part3 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P4 := k0_part4 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P5 := k0_part5 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P6 := k0_part6 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P7 := k0_part7 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P8 := k0_part8 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P9 := k0_part9 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P10 := k0_part10 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P11 := k0_part11 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P12 := k0_part12 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P13 := k0_part13 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P14 := k0_part14 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6
abbrev P15 := k0_part15 (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6

/-- Where the block of half `h`, head `n` lies in the scratch array. -/
theorem inbCx (h : Fin 2) (n : Fin 4) : ∀ a, (![64 * h.val, 64 * n.val] : Fin 2 → Nat) a + S64x64.size a ≤ S128x256.size a := by
  revert h n; decide
abbrev cr (h : Fin 2) (n : Fin 4) : Rect S128x256 := Rect.unit (s := S128x256) ![64 * h.val, 64 * n.val] S64x64.size (inbCx h n)

abbrev Pcs (F : FTy → Type) : Type := List (View.Piece (Elt F) S128x256 .bf16)

/-- The block of half `h`, head `n`, written. -/
abbrev pc (h : Fin 2) (n : Fin 4) (w : FVec F S64x64 .bf16) : View.Piece (Elt F) S128x256 .bf16 := ⟨cr h n, w⟩

/-- The eight blocks in the order they are written, newest first. -/
abbrev order : List (Fin 2 × Fin 4) := [(1, 3), (0, 3), (1, 2), (0, 2), (1, 1), (0, 1), (1, 0), (0, 0)]
theorem mem_order (p : Fin 2 × Fin 4) : p ∈ order := by revert p; decide

/-- A block of the assembled array is the block it was assembled from. -/
theorem tiled_emb (b : Fin 2 → Fin 4 → Vec F S64x64 .bf16) (h : Fin 2) (n : Fin 4) (x : (cr h n).shape.Idx) :
    tiled b ((cr h n).emb x) = b h n x := by
  have h0 : ((cr h n).emb x 0).val = 64 * h.val + (x 0).val := by
    show 64 * h.val + 1 * (x 0).val = _; omega
  have h1 : ((cr h n).emb x 1).val = 64 * n.val + (x 1).val := by
    show 64 * n.val + 1 * (x 1).val = _; omega
  have l0 : (x 0).val < 64 := (x 0).isLt
  have l1 : (x 1).val < 64 := (x 1).isLt
  unfold tiled
  have e1 : ∀ (p : (((cr h n).emb x 0).val / 64) < 2), (⟨((cr h n).emb x 0).val / 64, p⟩ : Fin 2) = h := fun p => Fin.ext (by
    show ((cr h n).emb x 0).val / 64 = h.val; omega)
  have e2 : ∀ (p : (((cr h n).emb x 1).val / 64) < 4), (⟨((cr h n).emb x 1).val / 64, p⟩ : Fin 4) = n := fun p => Fin.ext (by
    show ((cr h n).emb x 1).val / 64 = n.val; omega)
  rw [e1, e2]
  congr 1
  funext a
  match a with
  | ⟨0, _⟩ => exact Fin.ext (show ((cr h n).emb x 0).val % 64 = (x 0).val by omega)
  | ⟨1, _⟩ => exact Fin.ext (show ((cr h n).emb x 1).val % 64 = (x 1).val by omega)

theorem mem_cr (y : S128x256.Idx) : y ∈ (cr ⟨(y 0).val / 64, Nat.div_lt_of_lt_mul (y 0).isLt⟩ ⟨(y 1).val / 64, Nat.div_lt_of_lt_mul (y 1).isLt⟩).set :=
  Rect.mem_set_unit.mpr fun a => match a with
    | ⟨0, _⟩ => ⟨show 64 * ((y 0).val / 64) ≤ (y 0).val by omega, show (y 0).val < 64 * ((y 0).val / 64) + 64 by omega⟩
    | ⟨1, _⟩ => ⟨show 64 * ((y 1).val / 64) ≤ (y 1).val by omega, show (y 1).val < 64 * ((y 1).val / 64) + 64 by omega⟩

/-- Once all eight blocks are written, the whole array read is the blocks put together, whatever was there before. -/
theorem ctx_read (b : Fin 2 → Fin 4 → Vec F S64x64 .bf16) (f : cx.view.ty.Contents (Elt F))
    (hz : (![0, 0] : Fin 2 → Nat) = fun _ => 0) :
    cx.view.readAt (Elt F) (Rect.unit (s := S128x256) ![0, 0] S128x256.size inb_S128x256_S128x256_0_0).toLoadRect
      (cx.view.writes (Elt F) f (order.map fun p => pc p.1 p.2 (b p.1 p.2))) = tiled b := by
  refine (Memref.readAt_unit_zero (Elt F) cc0_scratch0 hz _ _).trans ?_
  funext y
  exact View.read_writes_apply_of_pieces cx.view f (tiled b) (order.map fun p => pc p.1 p.2 (b p.1 p.2))
    (fun p hp x => by
      obtain ⟨q, -, rfl⟩ := List.mem_map.mp hp
      exact (tiled_emb b q.1 q.2 x).symm) y
    ⟨pc _ _ _, List.mem_map.mpr ⟨(⟨(y 0).val / 64, Nat.div_lt_of_lt_mul (y 0).isLt⟩, ⟨(y 1).val / 64, Nat.div_lt_of_lt_mul (y 1).isLt⟩), mem_order _, rfl⟩, mem_cr y⟩

/-- The scratch array after the writes `Ls`. -/
abbrev cxAt (c : Dev nD) (f : Buf (Elt F) (cx.view.loc (c : Thread nD τ))) (Ls : Pcs F) : sProp 𝕄 :=
  cx.view.loc (c : Thread nD τ) ↦{fullShare} cx.view.writes (Elt F) f Ls

section

variable (c : Dev nD) (f : Buf (Elt F) (cx.view.loc (c : Thread nD τ))) (Ls : Pcs F)

/-- Stretch 2 writes its blocks and passes its values on. -/
theorem run2 (v17 v20 v23 : FVec F S256x256 .bf16) (v27 v28 : FVec F S128x64 .bf16) (v29 v30 v31 : FVec F S64x64 .bf16) (z : FVec F S64x64 .f32) (Kt : _ → sProp 𝕄) :
    iprop(cxAt c f Ls ∗ (cxAt c f (pc 1 0 (k0_pay12 v17 v27 v28) :: pc 0 0 (k0_pay11 v29 v30 v31 z) :: Ls) -∗ Kt ⟨k0_pay13 v20, k0_pay14 v23⟩))
      ⊢ wp frame (wpE (defs₀ (F := F)) 𝒱₀ (c : Thread nD τ) none) Set.univ (P2 v17 v20 v23 v27 v28 v29 v30 v31 z) Kt := by
  unfold P2
  rw [k0_part2_eq_skeleton]; unfold k0_part2_skel
  simp only [Prog.lift, Prog.bind_op, Prog.bind_ret, Prog.pure_eq_ret]
  iintro ⟨H, Hk⟩
  iapply (wp_load 𝒱₀ (c : Thread nD τ) none Set.univ (m := cx) (Finset.subset_univ _)) $$ H
  iintro H
  iapply (wp_store 𝒱₀ (c : Thread nD τ) none Set.univ (m := cx) (r := cr 0 0) (Mk := Finset.univ) (Finset.subset_univ _)) $$ H
  iintro H
  iapply (wp_load 𝒱₀ (c : Thread nD τ) none Set.univ (m := cx) (Finset.subset_univ _)) $$ H
  iintro H
  iapply (wp_store 𝒱₀ (c : Thread nD τ) none Set.univ (m := cx) (r := cr 1 0) (Mk := Finset.univ) (Finset.subset_univ _)) $$ H
  iintro H
  rw [wp_ret]
  imodintro
  iapply Hk
  iexact H

/-- Stretch 3 writes its blocks and passes its values on. -/
theorem run3 (v17 : FVec F S256x256 .bf16) (v73 v74 : FVec F S128x64 .bf16) (Kt : _ → sProp 𝕄) :
    iprop(cxAt c f Ls ∗ (cxAt c f (pc 0 1 (k0_pay15 v17 v73 v74) :: Ls) -∗ Kt (k0_pay16 v17 v73 v74)))
      ⊢ wp frame (wpE (defs₀ (F := F)) 𝒱₀ (c : Thread nD τ) none) Set.univ (P3 v17 v73 v74) Kt := by
  unfold P3
  rw [k0_part3_eq_skeleton]; unfold k0_part3_skel
  simp only [Prog.lift, Prog.bind_op, Prog.bind_ret, Prog.pure_eq_ret]
  iintro ⟨H, Hk⟩
  iapply (wp_load 𝒱₀ (c : Thread nD τ) none Set.univ (m := cx) (Finset.subset_univ _)) $$ H
  iintro H
  iapply (wp_store 𝒱₀ (c : Thread nD τ) none Set.univ (m := cx) (r := cr 0 1) (Mk := Finset.univ) (Finset.subset_univ _)) $$ H
  iintro H
  iapply (wp_load 𝒱₀ (c : Thread nD τ) none Set.univ (m := cx) (Finset.subset_univ _)) $$ H
  iintro H
  rw [wp_ret]
  imodintro
  iapply Hk
  iexact H

/-- Stretch 4 writes its blocks and passes its values on. -/
theorem run4 (v17 v20 v23 : FVec F S256x256 .bf16) (v115 : FVec F S64x64 .bf16) (Kt : _ → sProp 𝕄) :
    iprop(cxAt c f Ls ∗ (cxAt c f (pc 0 2 (k0_pay20 v17 v20 v23) :: pc 1 1 (k0_pay17 v115) :: Ls) -∗ Kt (k0_pay21 v17 v20 v23)))
      ⊢ wp frame (wpE (defs₀ (F := F)) 𝒱₀ (c : Thread nD τ) none) Set.univ (P4 v17 v20 v23 v115) Kt := by
  unfold P4
  rw [k0_part4_eq_skeleton]; unfold k0_part4_skel
  simp only [Prog.lift, Prog.bind_op, Prog.bind_ret, Prog.pure_eq_ret]
  iintro ⟨H, Hk⟩
  iapply (wp_store 𝒱₀ (c : Thread nD τ) none Set.univ (m := cx) (r := cr 1 1) (Mk := Finset.univ) (Finset.subset_univ _)) $$ H
  iintro H
  iapply (wp_load 𝒱₀ (c : Thread nD τ) none Set.univ (m := cx) (Finset.subset_univ _)) $$ H
  iintro H
  iapply (wp_store 𝒱₀ (c : Thread nD τ) none Set.univ (m := cx) (r := cr 0 2) (Mk := Finset.univ) (Finset.subset_univ _)) $$ H
  iintro H
  rw [wp_ret]
  imodintro
  iapply Hk
  iexact H

/-- Stretch 5 writes its blocks and passes its values on. -/
theorem run5 (v17 v20 v23 : FVec F S256x256 .bf16) (v161 : FVec F S64x64 .bf16) (Kt : _ → sProp 𝕄) :
    iprop(cxAt c f Ls ∗ (cxAt c f (pc 0 3 (k0_pay25 v17 v20 v23) :: pc 1 2 (k0_pay22 v161) :: Ls) -∗ Kt ⟨k0_pay24 v23, k0_pay27 v17 v20, k0_pay28 v17 v20, Ins.z64⟩))
      ⊢ wp frame (wpE (defs₀ (F := F)) 𝒱₀ (c : Thread nD τ) none) Set.univ (P5 v17 v20 v23 v161) Kt := by
  unfold P5
  rw [k0_part5_eq_skeleton]; unfold k0_part5_skel
  simp only [Prog.lift, Prog.bind_op, Prog.bind_ret, Prog.pure_eq_ret]
  iintro ⟨H, Hk⟩
  iapply (wp_load 𝒱₀ (c : Thread nD τ) none Set.univ (m := cx) (Finset.subset_univ _)) $$ H
  iintro H
  iapply (wp_store 𝒱₀ (c : Thread nD τ) none Set.univ (m := cx) (r := cr 1 2) (Mk := Finset.univ) (Finset.subset_univ _)) $$ H
  iintro H
  iapply (wp_load 𝒱₀ (c : Thread nD τ) none Set.univ (m := cx) (Finset.subset_univ _)) $$ H
  iintro H
  iapply (wp_store 𝒱₀ (c : Thread nD τ) none Set.univ (m := cx) (r := cr 0 3) (Mk := Finset.univ) (Finset.subset_univ _)) $$ H
  iintro H
  rw [wp_ret]
  imodintro
  iapply Hk
  iexact H

/-- Stretch 7 writes its blocks and passes its values on. -/
theorem run7 (v17 v20 v23 : FVec F S256x256 .bf16) (v228 v229 : FVec F S128x64 .bf16) (v232 : FVec F S64x64 .bf16) (v235 : FVec F S64x64 .f32) (Kt : _ → sProp 𝕄) :
    iprop(cxAt c f Ls ∗ (cxAt c f (pc 1 0 (k0_pay37 v17 v228 v229) :: pc 0 0 (k0_pay36 v232 v235) :: Ls) -∗ Kt ⟨k0_pay38 v20, k0_pay39 v23, k0_pay40 v17, k0_pay41 v20, k0_pay42 v23, Ins.z64⟩))
      ⊢ wp frame (wpE (defs₀ (F := F)) 𝒱₀ (c : Thread nD τ) none) Set.univ (P7 v17 v20 v23 v228 v229 v232 v235) Kt := by
  unfold P7
  rw [k0_part7_eq_skeleton]; unfold k0_part7_skel
  simp only [Prog.lift, Prog.bind_op, Prog.bind_ret, Prog.pure_eq_ret]
  iintro ⟨H, Hk⟩
  iapply (wp_load 𝒱₀ (c : Thread nD τ) none Set.univ (m := cx) (Finset.subset_univ _)) $$ H
  iintro H
  iapply (wp_store 𝒱₀ (c : Thread nD τ) none Set.univ (m := cx) (r := cr 0 0) (Mk := Finset.univ) (Finset.subset_univ _)) $$ H
  iintro H
  iapply (wp_load 𝒱₀ (c : Thread nD τ) none Set.univ (m := cx) (Finset.subset_univ _)) $$ H
  iintro H
  iapply (wp_store 𝒱₀ (c : Thread nD τ) none Set.univ (m := cx) (r := cr 1 0) (Mk := Finset.univ) (Finset.subset_univ _)) $$ H
  iintro H
  rw [wp_ret]
  imodintro
  iapply Hk
  iexact H

/-- Stretch 8 writes its blocks and passes its values on. -/
theorem run8 (v17 v20 v23 : FVec F S256x256 .bf16) (v274 v275 : FVec F S128x64 .bf16) (v276 v277 v278 : FVec F S64x64 .bf16) (z : FVec F S64x64 .f32) (Kt : _ → sProp 𝕄) :
    iprop(cxAt c f Ls ∗ (cxAt c f (pc 1 1 (k0_pay44 v17 v274 v275) :: pc 0 1 (k0_pay43 v276 v277 v278 z) :: Ls) -∗ Kt ⟨k0_pay45 v20, k0_pay46 v23⟩))
      ⊢ wp frame (wpE (defs₀ (F := F)) 𝒱₀ (c : Thread nD τ) none) Set.univ (P8 v17 v20 v23 v274 v275 v276 v277 v278 z) Kt := by
  unfold P8
  rw [k0_part8_eq_skeleton]; unfold k0_part8_skel
  simp only [Prog.lift, Prog.bind_op, Prog.bind_ret, Prog.pure_eq_ret]
  iintro ⟨H, Hk⟩
  iapply (wp_load 𝒱₀ (c : Thread nD τ) none Set.univ (m := cx) (Finset.subset_univ _)) $$ H
  iintro H
  iapply (wp_store 𝒱₀ (c : Thread nD τ) none Set.univ (m := cx) (r := cr 0 1) (Mk := Finset.univ) (Finset.subset_univ _)) $$ H
  iintro H
  iapply (wp_load 𝒱₀ (c : Thread nD τ) none Set.univ (m := cx) (Finset.subset_univ _)) $$ H
  iintro H
  iapply (wp_store 𝒱₀ (c : Thread nD τ) none Set.univ (m := cx) (r := cr 1 1) (Mk := Finset.univ) (Finset.subset_univ _)) $$ H
  iintro H
  rw [wp_ret]
  imodintro
  iapply Hk
  iexact H

/-- Stretch 9 writes its blocks and passes its values on. -/
theorem run9 (v17 : FVec F S256x256 .bf16) (v320 v321 : FVec F S128x64 .bf16) (Kt : _ → sProp 𝕄) :
    iprop(cxAt c f Ls ∗ (cxAt c f (pc 0 2 (k0_pay47 v17 v320 v321) :: Ls) -∗ Kt (k0_pay48 v17 v320 v321)))
      ⊢ wp frame (wpE (defs₀ (F := F)) 𝒱₀ (c : Thread nD τ) none) Set.univ (P9 v17 v320 v321) Kt := by
  unfold P9
  rw [k0_part9_eq_skeleton]; unfold k0_part9_skel
  simp only [Prog.lift, Prog.bind_op, Prog.bind_ret, Prog.pure_eq_ret]
  iintro ⟨H, Hk⟩
  iapply (wp_load 𝒱₀ (c : Thread nD τ) none Set.univ (m := cx) (Finset.subset_univ _)) $$ H
  iintro H
  iapply (wp_store 𝒱₀ (c : Thread nD τ) none Set.univ (m := cx) (r := cr 0 2) (Mk := Finset.univ) (Finset.subset_univ _)) $$ H
  iintro H
  iapply (wp_load 𝒱₀ (c : Thread nD τ) none Set.univ (m := cx) (Finset.subset_univ _)) $$ H
  iintro H
  rw [wp_ret]
  imodintro
  iapply Hk
  iexact H

/-- Stretch 10 writes its blocks and passes its values on. -/
theorem run10 (v17 v20 v23 : FVec F S256x256 .bf16) (v362 : FVec F S64x64 .bf16) (Kt : _ → sProp 𝕄) :
    iprop(cxAt c f Ls ∗ (cxAt c f (pc 0 3 (k0_pay52 v17 v20 v23) :: pc 1 2 (k0_pay49 v362) :: Ls) -∗ Kt (k0_pay53 v17 v20 v23)))
      ⊢ wp frame (wpE (defs₀ (F := F)) 𝒱₀ (c : Thread nD τ) none) Set.univ (P10 v17 v20 v23 v362) Kt := by
  unfold P10
  rw [k0_part10_eq_skeleton]; unfold k0_part10_skel
  simp only [Prog.lift, Prog.bind_op, Prog.bind_ret, Prog.pure_eq_ret]
  iintro ⟨H, Hk⟩
  iapply (wp_store 𝒱₀ (c : Thread nD τ) none Set.univ (m := cx) (r := cr 1 2) (Mk := Finset.univ) (Finset.subset_univ _)) $$ H
  iintro H
  iapply (wp_load 𝒱₀ (c : Thread nD τ) none Set.univ (m := cx) (Finset.subset_univ _)) $$ H
  iintro H
  iapply (wp_store 𝒱₀ (c : Thread nD τ) none Set.univ (m := cx) (r := cr 0 3) (Mk := Finset.univ) (Finset.subset_univ _)) $$ H
  iintro H
  rw [wp_ret]
  imodintro
  iapply Hk
  iexact H

end

end Cert.KernelIdeal.Run
-- ==== Proof.KernelIdeal.Steps.lean ====
/-
  The single steps of the exchange: a copy to a partner, a wait on an own cell, a signal to a partner, and the loads and
  stores of a half of a staging buffer and of a half of the result.
-/
module

public import proofs.«01_k».proof.Proof.KernelIdeal.Compute

@[expose] public section

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- What a device owes, whatever it has waited for. -/
def owed (c : Dev nD) (O : CellTallies nD τ sig Unit) : sProp 𝕄 := iprop(∃ W, owes (c : Thread nD τ) O W)

/-- Half `b` of device `c`'s buffer, held, a load of which reads `w`. -/
def slotIs (M : Big) (b : Fin 2) (c : Dev nD) (w : Vec F S1x128x512 .bf16) : sProp 𝕄 :=
  iprop(∃ f, ⌜rd M b f = w⌝ ∗ slotPts (F := F) M b c f)

theorem slotIs_any (M : Big) (b : Fin 2) (c : Dev nD) (w : Vec F S1x128x512 .bf16) :
    slotIs M b c w ⊢ (slotAny (F := F) M b c : sProp 𝕄) := by
  unfold slotIs
  iintro ⟨%f, -, H⟩
  iexists f
  iexact H
theorem slotAny_is (M : Big) (b : Fin 2) (c : Dev nD) :
    (slotAny (F := F) M b c : sProp 𝕄) ⊢ iprop(∃ w, slotIs M b c w) := by
  unfold slotIs
  iintro ⟨%f, H⟩
  iexists (rd M b f), f
  isplitr; · ipureintro; rfl
  iexact H

variable (I : Dev nD → Ins F) (K : GSem nD τ sig → ℕ) (c : Dev nD)

theorem recvPay_is (j b : Fin 2) : recvPay I j b c = slotIs (dst j) b c (sent I (pr j c) j b) := rfl

theorem ownPay_send (j b : Fin 2) : ownPay I (sk j b) c = sendPay j b c :=
  match j, b with
  | 0, 0 => rfl
  | 0, 1 => rfl
  | 1, 0 => rfl
  | 1, 1 => rfl
theorem ownPay_recv (j b : Fin 2) : ownPay I (rk j b) c = recvPay I j b c :=
  match j, b with
  | 0, 0 => rfl
  | 0, 1 => rfl
  | 1, 0 => rfl
  | 1, 1 => rfl

section Steps

variable {α : Type}

/-- A copy of half `b` of what round `j` sends into the partner's landing half: it pays the duty of the partner's receive
    cell, and gives the credit to wait on the own send cell with. -/
theorem send_step (j b : Fin 2) (n : Dev nD) (hn : n = pr j c) {O' : CellTallies nD τ sig Unit} (O : CellTallies nD τ sig Unit)
    (hO : O' = O + tallyAt (recvCell j b (pr j c)) () N) (sS sR : SemLoc sig) (hS : sS = osem (sk j b)) (hR : sR = osem (rk j b))
    {hsc : (slot (dst j) b).view.ref.isScScratch = false} {hsrc : (slot (src j) b).view.WordExact} {hdst : (slot (dst j) b).view.WordExact}
    {hsem : DmaTarget.Typed .vmem sR (.remote (Dev.tc n : Thread nD τ) (slot (dst j) b) sS hsc)}
    {k : PUnit → Prog (TpuEff nD τ sig (Elt F) Λ₀ .tc) α} {Q : α → sProp 𝕄} :
    iprop(records I K ∗ slotIs (src j) b c (sent I c j b) ∗ slotAny (F := F) (dst j) b (pr j c) ∗ owed c O'
        ∗ dutyTok ER (sendCell j b c) 0 0 ∗ reached ER (sendCell j b c) 0
        ∗ dutyTok ER (recvCell j b (pr j c)) 0 0 ∗ reached ER (recvCell j b (pr j c)) 0)
      ⊢ iprop(((cred (tallyAt (sendCell j b c) () N) ∗ owed c O) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (slot (src j) b) (.remote (Dev.tc n : Thread nD τ) (slot (dst j) b) sS hsc) sR hsrc hdst hsem) k) Q) := by
  subst hn hS hR
  unfold slotIs owed
  iintro ⟨#HR, ⟨%fs, %hfs, Hs⟩, ⟨%fd, Hd⟩, ⟨%W, HO⟩, Ht, Hr, Ht', Hr'⟩ Hk
  iapply (Rounds.wp_send_pointsTo 𝒱₀ ER (talkRd I) (c : Thread nD τ) none (c' := (pr j c : Thread nD τ)) (src := slot (src j) b) (dst := slot (dst j) b)
      (sS := osem (sk j b)) (sem := osem (rk j b)) (q := fullShare) (fs := fs) (κ₁ := K (sendCell j b c)) (κ₂ := K (recvCell j b (pr j c)))
      (r₁ := 0) (r₂ := 0) (d₁ := 0) (d₂ := 0) (fd := fd)
      (by rw [duties_own]; exact Finset.mem_singleton_self _) (by rw [duties_own]; exact Finset.mem_singleton_self _) () () N
      (by match j, b with
          | 0, 0 => rfl
          | 0, 1 => rfl
          | 1, 0 => rfl
          | 1, 1 => rfl)
      (amount_own I c (sk j b) 0) (amount_own I (pr j c) (rk j b) 0) O hO (W := W)
      (by
        rw [payload_own, ownPay_send]; unfold sendPay
        iintro H; iexists fs; iexact H)
      (by
        rw [payload_own, ownPay_recv]; unfold recvPay
        iintro H
        iexists ((slot (dst j) b).view.write (Elt F) fd ((slot (src j) b).view.read (Elt F) fs) Finset.univ)
        isplitr
        · ipureintro; rw [rd_copy, hfs, pr_pr]
        iexact H)) $$ [Hs Hd HO Ht Hr Ht' Hr']
  · isplitr; · iapply (inv_own I K (sk j b) c); iexact HR
    isplitr; · iapply (inv_own I K (rk j b) (pr j c)); iexact HR
    isplitl [Hs]; · iexact Hs
    isplitl [Hd]; · iexact Hd
    isplitl [HO]; · iexact HO
    isplitl [Ht]; · iexact Ht
    isplitl [Hr]; · iexact Hr
    isplitl [Ht'] <;> iassumption
  iintro ⟨Hc, HO⟩
  iapply Hk
  isplitl [Hc]; · iexact Hc
  iexists W; iexact HO

/-- A wait on the own cell `k`: its round is over and its payload comes back. -/
theorem wait_step (k : Fin 8) {n : ℕ} {O : CellTallies nD τ sig Unit} (hA : Above n O) (hl : lv (ownCell k c) () ≤ n)
    {sp sp' : Space} {s s' : Shape} {e e' : EltTy} (sem : DmaSem sig) (hs : (SemLoc.dma sem : SemLoc sig) = osem k)
    {a : Memref sig .tc sp' s' e'} {b : Memref sig .tc sp s e} (hN : b.view.dmaCredit = N)
    {ha : a.view.WordExact} {hb : b.view.WordExact} {p : PUnit → Prog (TpuEff nD τ sig (Elt F) Λ₀ .tc) α} {Q : α → sProp 𝕄} :
    iprop(records I K ∗ levAts L lv ∗ cred (tallyAt (ownCell k c) () N) ∗ owed c O ∗ atPos ER (ownCell k c) 0 ∅ 0)
      ⊢ iprop(((owed c O ∗ atPos ER (ownCell k c) (0 + 1) ∅ 0 ∗ ownPay I k c)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 sem a b ha hb) p) Q) := by
  have hs' : sem = ⟨6 + k.val, lt_dma k⟩ := SemLoc.dma.inj hs
  subst hs'
  unfold owed
  iintro ⟨#HR, #Hlev, Hc, ⟨%W, HO⟩, Hat⟩ Hk
  iapply (Rounds.wp_wait_rest_token 𝒱₀ ER (talkRd I) (c : Thread nD τ) none (κ := K (ownCell k c)) (sm := osem k)
      (wpE_waitDma2_eq (src := a) (dst := b) 𝒱₀ (c : Thread nD τ) none Set.univ) (Set.mem_univ _) () (O := O) (W := W) (R := 0) (m := 0) (T := ∅)
      ((Nat.zero_add _).trans (hN.trans (expect_own I c k).symm))) $$ [Hc HO Hat]
  · isplitr; · iapply (inv_own I K k c); iexact HR
    isplitl [Hc]; · rw [hN]; iexact Hc
    isplitl [HO]; · iexact HO
    isplitr; · iapply (mayWait hA c (osem k) hl); iexact Hlev
    iexact Hat
  iintro ⟨HO, Hat, -, Hpay⟩
  ihave Hp := (Entails.of_eq (rest_own I c k)) $$ Hpay
  iapply Hk
  isplitl [HO]; · iexists _; iexact HO
  isplitl [Hat] <;> iassumption

/-- A signal to the partner of round `j`: it hands over the own landing buffer of that round. -/
theorem signal_step (j : Fin 2) (n : Dev nD) (hn : n = pr j c) {O' : CellTallies nD τ sig Unit} (O : CellTallies nD τ sig Unit)
    (hO : O' = O + tallyAt (barCell (pr j c)) () 1) (s : Sem sig) (hs : s = barS)
    {p : PUnit → Prog (TpuEff nD τ sig (Elt F) Λ₀ .tc) α} {Q : α → sProp 𝕄} :
    iprop(records I K ∗ owed c O' ∗ dutyTok ER (barCell (pr j c)) 0 j ∗ slotAny (F := F) (dst j) 0 c ∗ slotAny (F := F) (dst j) 1 c
        ∗ reached ER (recvCell j 0 c) 0 ∗ reached ER (recvCell j 1 c) 0)
      ⊢ iprop((owed c O -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (n : Thread nD τ) s 1) p) Q) := by
  subst hn hs
  unfold owed
  iintro ⟨#HR, ⟨%W, HO⟩, Ht, H0, H1, Hr0, Hr1⟩ Hk
  iapply (Rounds.wp_signal 𝒱₀ ER (talkRd I) (c : Thread nD τ) none (dst := (pr j c : Thread nD τ)) (sem := barS) (r := 0) (d := j)
      (κ := K (barCell (pr j c))) (by rw [duties_bar]; match j with
        | 0 => decide
        | 1 => decide) (amount_bar I (pr j c) j) () O hO (W := W)) $$ [HO Ht H0 H1 Hr0 Hr1]
  · isplitr; · iapply (inv_bar I K (pr j c)); iexact HR
    isplitl [HO]; · iexact HO
    isplitl [Ht]; · iexact Ht
    isplitl [H0 H1 Hr0 Hr1]
    · rw [payload_bar]; unfold barPay; rw [pr_pr]
      isplitl [H0]; · iexact H0
      isplitl [H1]; · iexact H1
      isplitl [Hr0] <;> iassumption
    iapply (reached_bar I K (pr j c)); iexact HR
  iintro HO
  iapply Hk
  iexists W; iexact HO

/-- The wait for both partners' signals: both their landing buffers are now this device's to write. -/
theorem barrier_step (s : Sem sig) (hs : s = barS) {p : PUnit → Prog (TpuEff nD τ sig (Elt F) Λ₀ .tc) α} {Q : α → sProp 𝕄} :
    iprop(records I K ∗ levAts L lv ∗ cred (tallyAt (barCell c) () 2) ∗ owed c (o2 c) ∗ atPos ER (barCell c) 0 ∅ 0)
      ⊢ iprop(((owed c (o2 c) ∗ atPos ER (barCell c) (0 + 1) ∅ 0 ∗ barPay (F := F) c 0 ∗ barPay (F := F) c 1)
            -∗ wp frame (wpE (defs₀ (F := F)) 𝒱₀ (c : Thread nD τ) none) Set.univ (p ⟨⟩) Q)
          -∗ wp frame (wpE (defs₀ (F := F)) 𝒱₀ (c : Thread nD τ) none) Set.univ (.op (.semWait s 2) p) Q) := by
  subst hs
  unfold owed
  iintro ⟨#HR, #Hlev, Hc, ⟨%W, HO⟩, Hat⟩ Hk
  iapply (Rounds.wp_wait_rest_token 𝒱₀ ER (talkRd I) (c : Thread nD τ) none (κ := K (barCell c)) (sm := .reg barS)
      (wpE_semWait_eq 𝒱₀ (c : Thread nD τ) none Set.univ) (Set.mem_univ _) () (O := o2 c) (W := W) (R := 0) (m := 0) (T := ∅)
      ((Nat.zero_add _).trans (expect_bar I c).symm)) $$ [Hc HO Hat]
  · isplitr; · iapply (inv_bar I K c); iexact HR
    isplitl [Hc]; · iexact Hc
    isplitl [HO]; · iexact HO
    isplitr; · iapply (mayWait (above2 c) c (.reg barS) (le_refl 1)); iexact Hlev
    iexact Hat
  iintro ⟨HO, Hat, -, Hpay⟩
  ihave Hp := (Entails.of_eq (rest_bar I c)) $$ Hpay
  iapply Hk
  isplitl [HO]; · iexists _; iexact HO
  isplitl [Hat] <;> iassumption

/-- A load of a half reads what it holds. -/
theorem load_slot (M : Big) (b : Fin 2) (w : Vec F S1x128x512 .bf16) {h : M.view.LoadsAt (rect b).toLoadRect}
    {p : Vec F S1x128x512 .bf16 → Prog (TpuEff nD τ sig (Elt F) Λ₀ .tc) α} {Q : α → sProp 𝕄} :
    slotIs M b c w ⊢ iprop((slotIs M b c w -∗ wp frame (wpE (defs₀ (F := F)) 𝒱₀ (c : Thread nD τ) none) Set.univ (p w) Q)
      -∗ wp frame (wpE (defs₀ (F := F)) 𝒱₀ (c : Thread nD τ) none) Set.univ (.op (.load M (rect b).toLoadRect h) p) Q) := by
  unfold slotIs
  iintro ⟨%f, %hf, H⟩ Hk
  subst hf
  iapply (wp_load 𝒱₀ (c : Thread nD τ) none Set.univ (m := M) (slot_load_sub M b)) $$ H
  iintro H
  iapply Hk
  iexists f
  isplitr; · ipureintro; rfl
  iexact H

/-- A store to a half leaves it holding what was stored. -/
theorem store_slot (M : Big) (b : Fin 2) (v w : Vec F S1x128x512 .bf16) {h} {h'}
    {p : PUnit → Prog (TpuEff nD τ sig (Elt F) Λ₀ .tc) α} {Q : α → sProp 𝕄} :
    slotIs M b c v ⊢ iprop((slotIs M b c w -∗ wp frame (wpE (defs₀ (F := F)) 𝒱₀ (c : Thread nD τ) none) Set.univ (p ⟨⟩) Q)
      -∗ wp frame (wpE (defs₀ (F := F)) 𝒱₀ (c : Thread nD τ) none) Set.univ (.op (.store M (rect b) w Finset.univ h h') p) Q) := by
  unfold slotIs
  iintro ⟨%f, -, H⟩ Hk
  iapply (wp_store 𝒱₀ (c : Thread nD τ) none Set.univ (m := M) (r := rect b) (Mk := Finset.univ) (slot_store_sub M b)) $$ H
  iintro H
  iapply Hk
  iexists ((M.access (rect b)).write (Elt F) f w Finset.univ)
  isplitr; · ipureintro; exact rd_store M b f w
  iexact H

/-! ## The result's two halves -/

theorem inbY (b : Fin 2) : ∀ a, (![128 * b.val, 0] : Fin 2 → Nat) a + S128x512.size a ≤ S256x512.size a := by
  revert b; decide
abbrev yr (b : Fin 2) : Rect S256x512 := Rect.unit (s := S256x512) ![128 * b.val, 0] S128x512.size (inbY b)
abbrev rdy (b : Fin 2) (f : ym.view.ty.Contents (Elt F)) : Vec F S128x512 .f32 := ym.view.readAt (Elt F) (yr b).toLoadRect f

theorem rdy_same (b : Fin 2) (f : ym.view.ty.Contents (Elt F)) (w : Vec F S128x512 .f32) :
    rdy b ((ym.access (yr b)).write (Elt F) f w Finset.univ) = w := View.read_write_univ _ _

theorem yr_not_mem (b b' : Fin 2) (hb : b ≠ b') (x : S128x512.Idx) : (yr b).emb x ∉ (yr b').set := by
  intro hm
  have h := (Rect.mem_set_unit.mp hm) 0
  have h1 : 128 * b'.val ≤ 128 * b.val + 1 * (x 0).val := h.1
  have h2 : 128 * b.val + 1 * (x 0).val < 128 * b'.val + 128 := h.2
  have h3 : (x 0).val < 128 := (x 0).isLt
  exact hb (Fin.ext (by omega))
theorem rdy_other (b b' : Fin 2) (hb : b ≠ b') (f : ym.view.ty.Contents (Elt F)) (w : Vec F S128x512 .f32) :
    rdy b ((ym.access (yr b')).write (Elt F) f w Finset.univ) = rdy b f :=
  funext fun x => View.read_slice_write_of_not_mem (v := ym.view) (yr b') f w Finset.univ (y := (yr b).emb x) (fun hm => yr_not_mem b b' hb x (Rect.map_emb_univ (yr b') ▸ hm))

/-- The result's staging buffer, held, its halves reading `w`. -/
def yAt (w : Fin 2 → Vec F S128x512 .f32) : sProp 𝕄 :=
  iprop(∃ f : Buf (Elt F) (ym.view.loc (c : Thread nD τ)), ⌜∀ b, rdy b f = w b⌝ ∗ (ym.view.loc (c : Thread nD τ) ↦{fullShare} f))

/-- A load of a half of the result's buffer reads what it holds; -/
theorem load_y (b : Fin 2) (w : Fin 2 → Vec F S128x512 .f32) (v : Vec F S128x512 .f32) (hv : w b = v) {h : ym.view.LoadsAt (yr b).toLoadRect}
    {p : Vec F S128x512 .f32 → Prog (TpuEff nD τ sig (Elt F) Λ₀ .tc) α} {Q : α → sProp 𝕄} :
    yAt c w ⊢ iprop((yAt c w -∗ wp frame (wpE (defs₀ (F := F)) 𝒱₀ (c : Thread nD τ) none) Set.univ (p v) Q)
      -∗ wp frame (wpE (defs₀ (F := F)) 𝒱₀ (c : Thread nD τ) none) Set.univ (.op (.load ym (yr b).toLoadRect h) p) Q) := by
  unfold yAt
  iintro ⟨%f, %hf, H⟩ Hk
  subst hv
  rw [← hf b]
  iapply (wp_load 𝒱₀ (c : Thread nD τ) none Set.univ (m := ym) (Finset.subset_univ _)) $$ H
  iintro H
  iapply Hk
  iexists f
  isplitr; · ipureintro; exact hf
  iexact H

/-- and a store replaces it. -/
theorem store_y (b : Fin 2) (w : Fin 2 → Vec F S128x512 .f32) (v : Vec F S128x512 .f32) {h} {h'}
    {p : PUnit → Prog (TpuEff nD τ sig (Elt F) Λ₀ .tc) α} {Q : α → sProp 𝕄} :
    yAt c w ⊢ iprop((yAt c (Function.update w b v) -∗ wp frame (wpE (defs₀ (F := F)) 𝒱₀ (c : Thread nD τ) none) Set.univ (p ⟨⟩) Q)
      -∗ wp frame (wpE (defs₀ (F := F)) 𝒱₀ (c : Thread nD τ) none) Set.univ (.op (.store ym (yr b) v Finset.univ h h') p) Q) := by
  unfold yAt
  iintro ⟨%f, %hf, H⟩ Hk
  iapply (wp_store 𝒱₀ (c : Thread nD τ) none Set.univ (m := ym) (r := yr b) (Mk := Finset.univ) (Finset.subset_univ _)) $$ H
  iintro H
  iapply Hk
  iexists ((ym.access (yr b)).write (Elt F) f v Finset.univ)
  isplitr
  · ipureintro
    intro b'
    by_cases hb : b' = b
    · subst hb; rw [Function.update_self]; exact rdy_same b' f v
    · rw [Function.update_of_ne hb, rdy_other b' b hb]; exact hf b'
  iexact H

/-- A staged operand loaded whole. -/
theorem load_whole {s : Shape} {e : EltTy} (M : Memref sig .tc .vmem s e) (r : LoadRect s) (f : Buf (Elt F) (M.view.loc (c : Thread nD τ)))
    (v : r.shape.Idx → Elt F e) (hv : M.view.readAt (Elt F) r f = v) {h : M.view.LoadsAt r}
    {p : (r.shape.Idx → Elt F e) → Prog (TpuEff nD τ sig (Elt F) Λ₀ .tc) α} {Q : α → sProp 𝕄} :
    (M.view.loc (c : Thread nD τ) ↦{fullShare} f : sProp 𝕄)
      ⊢ iprop(((M.view.loc (c : Thread nD τ) ↦{fullShare} f) -∗ wp frame (wpE (defs₀ (F := F)) 𝒱₀ (c : Thread nD τ) none) Set.univ (p v) Q)
      -∗ wp frame (wpE (defs₀ (F := F)) 𝒱₀ (c : Thread nD τ) none) Set.univ (.op (.load M r h) p) Q) := by
  subst hv
  iintro H Hk
  iapply (wp_load 𝒱₀ (c : Thread nD τ) none Set.univ (m := M) (Finset.subset_univ _)) $$ H
  iintro H
  iapply Hk
  iexact H

end Steps

end Cert.KernelIdeal.Run
-- ==== Proof.KernelIdeal.Parts.lean ====
/-
  The stretches of the kernel that talk: the entry barrier, the copies of both rounds, the waits for them, and the sums
  made in between.
-/
module

public import proofs.«01_k».proof.Proof.KernelIdeal.Steps

@[expose] public section

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

theorem hz2 : (![0, 0] : Fin 2 → Nat) = fun _ => 0 := by decide

theorem dev1_eq (c : Dev nD) : (⟨k0_dev1 c, k0_dev1_lt c⟩ : Dev nD) = pr 0 c := by revert c; decide +kernel
theorem dev2_eq (c : Dev nD) : (⟨k0_dev2 c, k0_dev2_lt c⟩ : Dev nD) = pr 1 c := by revert c; decide +kernel
theorem dev3_eq (c : Dev nD) : (⟨k0_dev3 c, k0_dev3_lt c⟩ : Dev nD) = pr 0 c := by revert c; decide +kernel
theorem dev4_eq (c : Dev nD) : (⟨k0_dev4 c, k0_dev4_lt c⟩ : Dev nD) = pr 0 c := by revert c; decide +kernel
theorem dev5_eq (c : Dev nD) : (⟨k0_dev5 c, k0_dev5_lt c⟩ : Dev nD) = pr 1 c := by revert c; decide +kernel
theorem dev6_eq (c : Dev nD) : (⟨k0_dev6 c, k0_dev6_lt c⟩ : Dev nD) = pr 1 c := by revert c; decide +kernel

/-- The staged operands of device `c`. -/
def wins (i : Ins F) (c : Dev nD) : sProp 𝕄 :=
  iprop((xm.view.loc (c : Thread nD τ) ↦{fullShare} i.x) ∗ (wm.view.loc (c : Thread nD τ) ↦{fullShare} i.w)
    ∗ (km.view.loc (c : Thread nD τ) ↦{fullShare} i.k) ∗ (vm.view.loc (c : Thread nD τ) ↦{fullShare} i.v)
    ∗ (om.view.loc (c : Thread nD τ) ↦{fullShare} i.o))

variable (I : Dev nD → Ins F) (K : GSem nD τ sig → ℕ) (c : Dev nD)

/-- The entry barrier and the loads of the operands. -/
theorem run1 (Kt : _ → sProp 𝕄) :
    iprop((records I K
          ∗ levAts L lv
          ∗ owed c (O₀ c)
          ∗ cred (tallyAt (barCell c) () 2)
          ∗ atPos ER (barCell c) 0 ∅ 0
          ∗ dutyTok ER (barCell (pr 0 c)) 0 0
          ∗ dutyTok ER (barCell (pr 1 c)) 0 1
          ∗ slotAny (F := F) r1 0 c
          ∗ slotAny (F := F) r1 1 c
          ∗ slotAny (F := F) r2 0 c
          ∗ slotAny (F := F) r2 1 c
          ∗ reached ER (recvCell 0 0 c) 0
          ∗ reached ER (recvCell 0 1 c) 0
          ∗ reached ER (recvCell 1 0 c) 0
          ∗ reached ER (recvCell 1 1 c) 0
          ∗ wins (I c) c)
        ∗ ((owed c (o2 c)
          ∗ atPos ER (barCell c) (0 + 1) ∅ 0
          ∗ barPay (F := F) c 0
          ∗ barPay (F := F) c 1
          ∗ wins (I c) c) -∗ Kt ⟨c, Scalar.xori (Scalar.remsi (Scalar.divsi (Dev.word c) 1#32) 4#32) 1#32, Scalar.subi 3#32 (Scalar.remsi (Scalar.divsi (Dev.word c) 1#32) 4#32), (I c).q, (I c).kk, (I c).vv, (I c).oo, k0_pay6 (I c).k, k0_pay7 (I c).v, k0_pay8 (I c).x (I c).w, k0_pay9 (I c).k, k0_pay10 (I c).v, Ins.z64⟩))
      ⊢ wp frame (wpE (defs₀ (F := F)) 𝒱₀ (c : Thread nD τ) none) Set.univ (P1) Kt := by
  unfold P1
  rw [k0_part1_eq_skeleton]; unfold k0_part1_skel
  simp only [Prog.lift, Prog.bind_op, Prog.bind_ret, Prog.pure_eq_ret, semSignalWord, semWaitWord, wp_deviceId]
  iintro ⟨⟨#HR, #Hlev, HO, Hc, Hat, Ht0, Ht1, H00, H01, H10, H11, #Hr00, #Hr01, #Hr10, #Hr11, Hw⟩, Hk⟩
  unfold wins
  icases Hw with ⟨Hx, Hw, Hkk, Hv, Ho⟩
  iapply (signal_step I K c 0 _ (dev1_eq c) (o1 c) rfl _ rfl) $$ [HO Ht0 H00 H01]
  · isplitr; · iexact HR
    isplitl [HO]; · iexact HO
    isplitl [Ht0]; · iexact Ht0
    isplitl [H00]; · iexact H00
    isplitl [H01]; · iexact H01
    isplitr; · iexact Hr00
    iexact Hr01
  iintro HO
  iapply (signal_step I K c 1 _ (dev2_eq c) (o2 c) rfl _ rfl) $$ [HO Ht1 H10 H11]
  · isplitr; · iexact HR
    isplitl [HO]; · iexact HO
    isplitl [Ht1]; · iexact Ht1
    isplitl [H10]; · iexact H10
    isplitl [H11]; · iexact H11
    isplitr; · iexact Hr10
    iexact Hr11
  iintro HO
  iapply (barrier_step I K c _ rfl) $$ [Hc HO Hat]
  · isplitr; · iexact HR
    isplitr; · iexact Hlev
    isplitl [Hc]; · iexact Hc
    isplitl [HO]; · iexact HO
    iexact Hat
  iintro ⟨HO, Hat, Hb0, Hb1⟩
  iapply (load_whole c xm _ (I c).x (I c).x (Memref.readAt_unit_zero (Elt F) _ hz2 _ _)) $$ Hx
  iintro Hx
  iapply (load_whole c wm _ (I c).w (I c).w (Memref.readAt_unit_zero (Elt F) _ hz2 _ _)) $$ Hw
  iintro Hw
  iapply (load_whole c km _ (I c).k (I c).k (Memref.readAt_unit_zero (Elt F) _ hz2 _ _)) $$ Hkk
  iintro Hkk
  iapply (load_whole c vm _ (I c).v (I c).v (Memref.readAt_unit_zero (Elt F) _ hz2 _ _)) $$ Hv
  iintro Hv
  iapply (load_whole c om _ (I c).o (I c).o (Memref.readAt_unit_zero (Elt F) _ hz2 _ _)) $$ Ho
  iintro Ho
  rw [wp_ret]
  imodintro
  iapply Hk
  isplitl [HO]; · iexact HO
  isplitl [Hat]; · iexact Hat
  isplitl [Hb0]; · iexact Hb0
  isplitl [Hb1]; · iexact Hb1
  isplitl [Hx]; · iexact Hx
  isplitl [Hw]; · iexact Hw
  isplitl [Hkk]; · iexact Hkk
  isplitl [Hv]; · iexact Hv
  iexact Ho

/-- Batch 0's last block, the device's own part of the result, and its copy to the first partner. -/
theorem run6 (v3 : BitVec 32) (f : Buf (Elt F) (cx.view.loc (c : Thread nD τ))) (w : Fin 2 → Vec F S128x512 .f32) (v : Vec F S1x128x512 .bf16) (Kt : _ → sProp 𝕄) :
    iprop((records I K
          ∗ cxAt c f (order.tail.map fun p => pc p.1 p.2 ((I c).blk0 p.1 p.2))
          ∗ yAt c w
          ∗ slotIs s1 0 c v
          ∗ slotAny (F := F) r1 0 (pr 0 c)
          ∗ owed c (o2 c)
          ∗ dutyTok ER (sendCell 0 0 c) 0 0
          ∗ reached ER (sendCell 0 0 c) 0
          ∗ dutyTok ER (recvCell 0 0 (pr 0 c)) 0 0
          ∗ reached ER (recvCell 0 0 (pr 0 c)) 0)
        ∗ (((∃ g, cxAt c g [])
          ∗ yAt c (Function.update w 0 ((I c).own 0))
          ∗ cred (tallyAt (sendCell 0 0 c) () N)
          ∗ owed c (o3 c)) -∗ Kt ⟨k0_pay32 (I c).kk, k0_pay33 (I c).vv, k0_pay34 (I c).vv, k0_pay35 (I c).q (I c).kk⟩))
      ⊢ wp frame (wpE (defs₀ (F := F)) 𝒱₀ (c : Thread nD τ) none) Set.univ (P6 c v3 (I c).q (I c).kk (I c).vv (I c).oo (k0_pay24 (I c).vv) (k0_pay27 (I c).q (I c).kk) (k0_pay28 (I c).q (I c).kk) Ins.z64) Kt := by
  unfold P6
  rw [k0_part6_eq_skeleton]; unfold k0_part6_skel
  simp only [Prog.lift, Prog.bind_op, Prog.bind_ret, Prog.pure_eq_ret, semSignalWord, semWaitWord, wp_deviceId]
  iintro ⟨⟨#HR, Hx, Hy, Hs, Hl, HO, HtS, #HrS, HtR, #HrR⟩, Hk⟩
  iapply (wp_load 𝒱₀ (c : Thread nD τ) none Set.univ (m := cx) (Finset.subset_univ _)) $$ Hx
  iintro Hx
  iapply (wp_store 𝒱₀ (c : Thread nD τ) none Set.univ (m := cx) (r := cr 1 3) (Mk := Finset.univ) (Finset.subset_univ _)) $$ Hx
  iintro Hx
  iapply (load_whole c cx _ _ (tiled (I c).blk0) (ctx_read (I c).blk0 f hz2)) $$ Hx
  iintro Hx
  iapply (load_y c 0 w _ rfl) $$ Hy
  iintro Hy
  iapply (store_y c 0 w ((I c).own 0)) $$ Hy
  iintro Hy
  iapply (load_slot c s1 0 v) $$ Hs
  iintro Hs
  iapply (store_slot c s1 0 v ((I c).ownSent 0)) $$ Hs
  iintro Hs
  iapply (send_step I K c 0 0 _ (dev3_eq c) (o3 c) rfl _ _ rfl rfl) $$ [Hs Hl HO HtS HtR]
  · isplitr; · iexact HR
    isplitl [Hs]; · iexact Hs
    isplitl [Hl]; · iexact Hl
    isplitl [HO]; · iexact HO
    isplitl [HtS]; · iexact HtS
    isplitr; · iexact HrS
    isplitl [HtR]; · iexact HtR
    iexact HrR
  iintro ⟨Hc, HO⟩
  rw [wp_ret]
  imodintro
  iapply Hk
  isplitl [Hx]; · iexists _; iexact Hx
  isplitl [Hy]; · iexact Hy
  isplitl [Hc]; · iexact Hc
  iexact HO

/-- Batch 1's last block, the device's own part of the result, and its copy to the first partner. -/
theorem run11 (v3 : BitVec 32) (f : Buf (Elt F) (cx.view.loc (c : Thread nD τ))) (w : Fin 2 → Vec F S128x512 .f32) (v : Vec F S1x128x512 .bf16) (Kt : _ → sProp 𝕄) :
    iprop((records I K
          ∗ cxAt c f (order.tail.map fun p => pc p.1 p.2 ((I c).blk1 p.1 p.2))
          ∗ yAt c w
          ∗ slotIs s1 1 c v
          ∗ slotAny (F := F) r1 1 (pr 0 c)
          ∗ owed c (o3 c)
          ∗ dutyTok ER (sendCell 0 1 c) 0 0
          ∗ reached ER (sendCell 0 1 c) 0
          ∗ dutyTok ER (recvCell 0 1 (pr 0 c)) 0 0
          ∗ reached ER (recvCell 0 1 (pr 0 c)) 0)
        ∗ (((∃ g, cxAt c g [])
          ∗ yAt c (Function.update w 1 ((I c).own 1))
          ∗ cred (tallyAt (sendCell 0 1 c) () N)
          ∗ owed c (o4 c)) -∗ Kt ⟨⟩))
      ⊢ wp frame (wpE (defs₀ (F := F)) 𝒱₀ (c : Thread nD τ) none) Set.univ (P11 c v3 (I c).oo (k0_pay53 (I c).q (I c).kk (I c).vv)) Kt := by
  unfold P11
  rw [k0_part11_eq_skeleton]; unfold k0_part11_skel
  simp only [Prog.lift, Prog.bind_op, Prog.bind_ret, Prog.pure_eq_ret, semSignalWord, semWaitWord, wp_deviceId]
  iintro ⟨⟨#HR, Hx, Hy, Hs, Hl, HO, HtS, #HrS, HtR, #HrR⟩, Hk⟩
  iapply (wp_load 𝒱₀ (c : Thread nD τ) none Set.univ (m := cx) (Finset.subset_univ _)) $$ Hx
  iintro Hx
  iapply (wp_store 𝒱₀ (c : Thread nD τ) none Set.univ (m := cx) (r := cr 1 3) (Mk := Finset.univ) (Finset.subset_univ _)) $$ Hx
  iintro Hx
  iapply (load_whole c cx _ _ (tiled (I c).blk1) (ctx_read (I c).blk1 f hz2)) $$ Hx
  iintro Hx
  iapply (load_y c 1 w _ rfl) $$ Hy
  iintro Hy
  iapply (store_y c 1 w ((I c).own 1)) $$ Hy
  iintro Hy
  iapply (load_slot c s1 1 v) $$ Hs
  iintro Hs
  iapply (store_slot c s1 1 v ((I c).ownSent 1)) $$ Hs
  iintro Hs
  iapply (send_step I K c 0 1 _ (dev4_eq c) (o4 c) rfl _ _ rfl rfl) $$ [Hs Hl HO HtS HtR]
  · isplitr; · iexact HR
    isplitl [Hs]; · iexact Hs
    isplitl [Hl]; · iexact Hl
    isplitl [HO]; · iexact HO
    isplitl [HtS]; · iexact HtS
    isplitr; · iexact HrS
    isplitl [HtR]; · iexact HtR
    iexact HrR
  iintro ⟨Hc, HO⟩
  rw [wp_ret]
  imodintro
  iapply Hk
  isplitl [Hx]; · iexists _; iexact Hx
  isplitl [Hy]; · iexact Hy
  isplitl [Hc]; · iexact Hc
  iexact HO

/-- The waits for batch 0's first exchange, and the sum of the pair. -/
theorem run12 (v3 v4 : BitVec 32) (v : Vec F S1x128x512 .bf16) (Kt : _ → sProp 𝕄) :
    iprop((records I K
          ∗ levAts L lv
          ∗ cred (tallyAt (sendCell 0 0 c) () N)
          ∗ cred (tallyAt (recvCell 0 0 c) () N)
          ∗ owed c (o4 c)
          ∗ atPos ER (ownCell 0 c) 0 ∅ 0
          ∗ atPos ER (ownCell 4 c) 0 ∅ 0
          ∗ yAt c (I c).own
          ∗ slotIs s2 0 c v)
        ∗ ((owed c (o4 c)
          ∗ atPos ER (ownCell 0 c) (0 + 1) ∅ 0
          ∗ atPos ER (ownCell 4 c) (0 + 1) ∅ 0
          ∗ slotAny (F := F) s1 0 c
          ∗ slotAny (F := F) r1 0 c
          ∗ yAt c (Function.update (I c).own 0 (pair I c 0))
          ∗ slotIs s2 0 c (pairSent I c 0)) -∗ Kt ⟨⟩))
      ⊢ wp frame (wpE (defs₀ (F := F)) 𝒱₀ (c : Thread nD τ) none) Set.univ (P12 v3 v4) Kt := by
  unfold P12
  rw [k0_part12_eq_skeleton]; unfold k0_part12_skel
  simp only [Prog.lift, Prog.bind_op, Prog.bind_ret, Prog.pure_eq_ret, semSignalWord, semWaitWord, wp_deviceId]
  iintro ⟨⟨#HR, #Hlev, Hc0, Hc4, HO, Ha0, Ha4, Hy, Hs⟩, Hk⟩
  iapply (wait_step I K c 0 (above4 c) (Nat.zero_le _) (b := slot s1 0) _ rfl rfl) $$ [Hc0 HO Ha0]
  · isplitr; · iexact HR
    isplitr; · iexact Hlev
    isplitl [Hc0]; · iexact Hc0
    isplitl [HO]; · iexact HO
    iexact Ha0
  iintro ⟨HO, Ha0, Hs1⟩
  ihave Hs1 := (Entails.of_eq (show ownPay I 0 c = slotAny (F := F) s1 0 c from rfl)) $$ Hs1
  iapply (wait_step I K c 4 (above4 c) (le_refl 2) (b := slot r1 0) _ rfl rfl) $$ [Hc4 HO Ha4]
  · isplitr; · iexact HR
    isplitr; · iexact Hlev
    isplitl [Hc4]; · iexact Hc4
    isplitl [HO]; · iexact HO
    iexact Ha4
  iintro ⟨HO, Ha4, Hr1⟩
  ihave Hr1 := (Entails.of_eq (show ownPay I 4 c = slotIs r1 0 c (sent I (p1 c) 0 0) from rfl)) $$ Hr1
  iapply (load_y c 0 (I c).own _ rfl) $$ Hy
  iintro Hy
  iapply (load_slot c r1 0 (sent I (p1 c) 0 0)) $$ Hr1
  iintro Hr1
  iapply (load_y c 0 (I c).own _ rfl) $$ Hy
  iintro Hy
  iapply (store_y c 0 (I c).own (pair I c 0)) $$ Hy
  iintro Hy
  iapply (load_slot c s2 0 v) $$ Hs
  iintro Hs
  iapply (store_slot c s2 0 v (pairSent I c 0)) $$ Hs
  iintro Hs
  rw [wp_ret]
  imodintro
  iapply Hk
  isplitl [HO]; · iexact HO
  isplitl [Ha0]; · iexact Ha0
  isplitl [Ha4]; · iexact Ha4
  isplitl [Hs1]; · iexact Hs1
  isplitl [Hr1]; · iapply (slotIs_any r1 0 c _); iexact Hr1
  isplitl [Hy]; · iexact Hy
  iexact Hs

/-- Batch 0's copy to the second partner, and the waits for batch 1's first exchange. -/
theorem run13 (v3 : BitVec 32) (Kt : _ → sProp 𝕄) :
    iprop((records I K
          ∗ levAts L lv
          ∗ slotIs s2 0 c (pairSent I c 0)
          ∗ slotAny (F := F) r2 0 (pr 1 c)
          ∗ dutyTok ER (sendCell 1 0 c) 0 0
          ∗ reached ER (sendCell 1 0 c) 0
          ∗ dutyTok ER (recvCell 1 0 (pr 1 c)) 0 0
          ∗ reached ER (recvCell 1 0 (pr 1 c)) 0
          ∗ cred (tallyAt (sendCell 0 1 c) () N)
          ∗ cred (tallyAt (recvCell 0 1 c) () N)
          ∗ owed c (o4 c)
          ∗ atPos ER (ownCell 1 c) 0 ∅ 0
          ∗ atPos ER (ownCell 5 c) 0 ∅ 0
          ∗ yAt c (Function.update (I c).own 0 (pair I c 0)))
        ∗ ((cred (tallyAt (sendCell 1 0 c) () N)
          ∗ owed c (o5 c)
          ∗ atPos ER (ownCell 1 c) (0 + 1) ∅ 0
          ∗ atPos ER (ownCell 5 c) (0 + 1) ∅ 0
          ∗ slotAny (F := F) s1 1 c
          ∗ slotAny (F := F) r1 1 c
          ∗ yAt c (Function.update (I c).own 0 (pair I c 0))) -∗ Kt ⟨k0_pay59 ((I c).own 1), k0_pay60 ((I (p1 c)).ownSent 1)⟩))
      ⊢ wp frame (wpE (defs₀ (F := F)) 𝒱₀ (c : Thread nD τ) none) Set.univ (P13 c v3) Kt := by
  unfold P13
  rw [k0_part13_eq_skeleton]; unfold k0_part13_skel
  simp only [Prog.lift, Prog.bind_op, Prog.bind_ret, Prog.pure_eq_ret, semSignalWord, semWaitWord, wp_deviceId]
  iintro ⟨⟨#HR, #Hlev, Hs, Hl, HtS, #HrS, HtR, #HrR, Hc1, Hc5, HO, Ha1, Ha5, Hy⟩, Hk⟩
  iapply (send_step I K c 1 0 _ (dev5_eq c) (o5 c) rfl _ _ rfl rfl) $$ [Hs Hl HO HtS HtR]
  · isplitr; · iexact HR
    isplitl [Hs]; · iexact Hs
    isplitl [Hl]; · iexact Hl
    isplitl [HO]; · iexact HO
    isplitl [HtS]; · iexact HtS
    isplitr; · iexact HrS
    isplitl [HtR]; · iexact HtR
    iexact HrR
  iintro ⟨Hc, HO⟩
  iapply (wait_step I K c 1 (above5 c) (Nat.zero_le _) (b := slot s1 1) _ rfl rfl) $$ [Hc1 HO Ha1]
  · isplitr; · iexact HR
    isplitr; · iexact Hlev
    isplitl [Hc1]; · iexact Hc1
    isplitl [HO]; · iexact HO
    iexact Ha1
  iintro ⟨HO, Ha1, Hs1⟩
  ihave Hs1 := (Entails.of_eq (show ownPay I 1 c = slotAny (F := F) s1 1 c from rfl)) $$ Hs1
  iapply (wait_step I K c 5 (above5 c) (le_refl 2) (b := slot r1 1) _ rfl rfl) $$ [Hc5 HO Ha5]
  · isplitr; · iexact HR
    isplitr; · iexact Hlev
    isplitl [Hc5]; · iexact Hc5
    isplitl [HO]; · iexact HO
    iexact Ha5
  iintro ⟨HO, Ha5, Hr1⟩
  ihave Hr1 := (Entails.of_eq (show ownPay I 5 c = slotIs r1 1 c (sent I (p1 c) 0 1) from rfl)) $$ Hr1
  iapply (load_y c 1 (Function.update (I c).own 0 (pair I c 0)) ((I c).own 1) rfl) $$ Hy
  iintro Hy
  ihave Hr1 := (Entails.of_eq (show slotIs r1 1 c (sent I (p1 c) 0 1) = slotIs r1 1 c ((I (p1 c)).ownSent 1) from rfl)) $$ Hr1
  iapply (load_slot c r1 1 ((I (p1 c)).ownSent 1)) $$ Hr1
  iintro Hr1
  rw [wp_ret]
  imodintro
  iapply Hk
  isplitl [Hc]; · iexact Hc
  isplitl [HO]; · iexact HO
  isplitl [Ha1]; · iexact Ha1
  isplitl [Ha5]; · iexact Ha5
  isplitl [Hs1]; · iexact Hs1
  isplitl [Hr1]; · iapply (slotIs_any r1 1 c _); iexact Hr1
  iexact Hy

/-- Both halves replaced one after the other. -/
theorem update_pair : Function.update (Function.update (I c).own 0 (pair I c 0)) 1 (pair I c 1) = pair I c := by
  funext b; match b with
  | 0 => rfl
  | 1 => rfl
theorem update_fin : Function.update (Function.update (pair I c) 0 (fin I c 0)) 1 (fin I c 1) = fin I c := by
  funext b; match b with
  | 0 => rfl
  | 1 => rfl
theorem update_own (w : Fin 2 → Vec F S128x512 .f32) : Function.update (Function.update w 0 ((I c).own 0)) 1 ((I c).own 1) = (I c).own := by
  funext b; match b with
  | 0 => rfl
  | 1 => rfl

/-- Batch 1's sum of the pair and its copy to the second partner. -/
theorem run14 (v4 : BitVec 32) (v : Vec F S1x128x512 .bf16) (Kt : _ → sProp 𝕄) :
    iprop((records I K
          ∗ levAts L lv
          ∗ yAt c (Function.update (I c).own 0 (pair I c 0))
          ∗ slotIs s2 1 c v
          ∗ slotAny (F := F) r2 1 (pr 1 c)
          ∗ dutyTok ER (sendCell 1 1 c) 0 0
          ∗ reached ER (sendCell 1 1 c) 0
          ∗ dutyTok ER (recvCell 1 1 (pr 1 c)) 0 0
          ∗ reached ER (recvCell 1 1 (pr 1 c)) 0
          ∗ cred (tallyAt (sendCell 1 0 c) () N)
          ∗ owed c (o5 c)
          ∗ atPos ER (ownCell 2 c) 0 ∅ 0)
        ∗ ((yAt c (pair I c)
          ∗ cred (tallyAt (sendCell 1 1 c) () N)
          ∗ owed c 0
          ∗ atPos ER (ownCell 2 c) (0 + 1) ∅ 0
          ∗ slotAny (F := F) s2 0 c) -∗ Kt ⟨⟩))
      ⊢ wp frame (wpE (defs₀ (F := F)) 𝒱₀ (c : Thread nD τ) none) Set.univ (P14 c v4 (k0_pay59 ((I c).own 1)) (k0_pay60 ((I (p1 c)).ownSent 1))) Kt := by
  unfold P14
  rw [k0_part14_eq_skeleton]; unfold k0_part14_skel
  simp only [Prog.lift, Prog.bind_op, Prog.bind_ret, Prog.pure_eq_ret, semSignalWord, semWaitWord, wp_deviceId]
  iintro ⟨⟨#HR, #Hlev, Hy, Hs, Hl, HtS, #HrS, HtR, #HrR, Hc2, HO, Ha2⟩, Hk⟩
  iapply (load_y c 1 (Function.update (I c).own 0 (pair I c 0)) ((I c).own 1) rfl) $$ Hy
  iintro Hy
  iapply (store_y c 1 (Function.update (I c).own 0 (pair I c 0)) (pair I c 1)) $$ Hy
  iintro Hy
  iapply (load_slot c s2 1 v) $$ Hs
  iintro Hs
  iapply (store_slot c s2 1 v (pairSent I c 1)) $$ Hs
  iintro Hs
  iapply (send_step I K c 1 1 _ (dev6_eq c) (0) rfl _ _ rfl rfl) $$ [Hs Hl HO HtS HtR]
  · isplitr; · iexact HR
    isplitl [Hs]; · iexact Hs
    isplitl [Hl]; · iexact Hl
    isplitl [HO]; · iexact HO
    isplitl [HtS]; · iexact HtS
    isplitr; · iexact HrS
    isplitl [HtR]; · iexact HtR
    iexact HrR
  iintro ⟨Hc, HO⟩
  iapply (wait_step I K c 2 (Above.zero 3) (Nat.zero_le _) (b := slot s2 0) _ rfl rfl) $$ [Hc2 HO Ha2]
  · isplitr; · iexact HR
    isplitr; · iexact Hlev
    isplitl [Hc2]; · iexact Hc2
    isplitl [HO]; · iexact HO
    iexact Ha2
  iintro ⟨HO, Ha2, Hs2⟩
  ihave Hs2 := (Entails.of_eq (show ownPay I 2 c = slotAny (F := F) s2 0 c from rfl)) $$ Hs2
  rw [wp_ret]
  imodintro
  iapply Hk
  isplitl [Hy]; · rw [← update_pair I c]; iexact Hy
  isplitl [Hc]; · iexact Hc
  isplitl [HO]; · iexact HO
  isplitl [Ha2]; · iexact Ha2
  iexact Hs2

/-- The wait for batch 0's second exchange, and the sum of all four. -/
theorem run15 (v4 : BitVec 32) (Kt : _ → sProp 𝕄) :
    iprop((records I K
          ∗ levAts L lv
          ∗ cred (tallyAt (recvCell 1 0 c) () N)
          ∗ cred (tallyAt (sendCell 1 1 c) () N)
          ∗ owed c 0
          ∗ atPos ER (ownCell 6 c) 0 ∅ 0
          ∗ atPos ER (ownCell 3 c) 0 ∅ 0
          ∗ yAt c (pair I c))
        ∗ ((owed c 0
          ∗ atPos ER (ownCell 6 c) (0 + 1) ∅ 0
          ∗ atPos ER (ownCell 3 c) (0 + 1) ∅ 0
          ∗ slotAny (F := F) r2 0 c
          ∗ slotAny (F := F) s2 1 c
          ∗ yAt c (Function.update (pair I c) 0 (fin I c 0))) -∗ Kt ⟨⟩))
      ⊢ wp frame (wpE (defs₀ (F := F)) 𝒱₀ (c : Thread nD τ) none) Set.univ (P15 v4) Kt := by
  unfold P15
  rw [k0_part15_eq_skeleton]; unfold k0_part15_skel
  simp only [Prog.lift, Prog.bind_op, Prog.bind_ret, Prog.pure_eq_ret, semSignalWord, semWaitWord, wp_deviceId]
  iintro ⟨⟨#HR, #Hlev, Hc6, Hc3, HO, Ha6, Ha3, Hy⟩, Hk⟩
  iapply (wait_step I K c 6 (Above.zero 3) (le_refl 3) (b := slot r2 0) _ rfl rfl) $$ [Hc6 HO Ha6]
  · isplitr; · iexact HR
    isplitr; · iexact Hlev
    isplitl [Hc6]; · iexact Hc6
    isplitl [HO]; · iexact HO
    iexact Ha6
  iintro ⟨HO, Ha6, Hr2⟩
  ihave Hr2 := (Entails.of_eq (show ownPay I 6 c = slotIs r2 0 c (sent I (p2 c) 1 0) from rfl)) $$ Hr2
  iapply (load_y c 0 (pair I c) _ rfl) $$ Hy
  iintro Hy
  iapply (load_slot c r2 0 (sent I (p2 c) 1 0)) $$ Hr2
  iintro Hr2
  iapply (load_y c 0 (pair I c) _ rfl) $$ Hy
  iintro Hy
  iapply (store_y c 0 (pair I c) (fin I c 0)) $$ Hy
  iintro Hy
  iapply (wait_step I K c 3 (Above.zero 3) (Nat.zero_le _) (b := slot s2 1) _ rfl rfl) $$ [Hc3 HO Ha3]
  · isplitr; · iexact HR
    isplitr; · iexact Hlev
    isplitl [Hc3]; · iexact Hc3
    isplitl [HO]; · iexact HO
    iexact Ha3
  iintro ⟨HO, Ha3, Hs2⟩
  ihave Hs2 := (Entails.of_eq (show ownPay I 3 c = slotAny (F := F) s2 1 c from rfl)) $$ Hs2
  rw [wp_ret]
  imodintro
  iapply Hk
  isplitl [HO]; · iexact HO
  isplitl [Ha6]; · iexact Ha6
  isplitl [Ha3]; · iexact Ha3
  isplitl [Hr2]; · iapply (slotIs_any r2 0 c _); iexact Hr2
  isplitl [Hs2]; · iexact Hs2
  iexact Hy

end Cert.KernelIdeal.Run
-- ==== Proof.KernelIdeal.Body.lean ====
/-
  One device's kernel from its first signal to its return.
-/
module

public import proofs.«01_k».proof.Proof.KernelIdeal.Parts

@[expose] public section

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Dev nD → Ins F) (K : GSem nD τ sig → ℕ) (c : Dev nD)

/-- Held at contents not chosen. -/
def someAt {s : Shape} {e : EltTy} (M : Memref sig .tc .vmem s e) : sProp 𝕄 :=
  iprop(∃ f : Buf (Elt F) (M.view.loc (c : Thread nD τ)), M.view.loc (c : Thread nD τ) ↦{fullShare} f)

/-- The kernel's scratch arrays. -/
def scratch : sProp 𝕄 :=
  iprop(someAt (F := F) c cx ∗ someAt (F := F) c s1 ∗ someAt (F := F) c r1 ∗ someAt (F := F) c s2 ∗ someAt (F := F) c r2)

/-- What the kernel starts from, -/
def talkPre : sProp 𝕄 :=
  iprop(opened I K c ∗ creds (F := F) c ∗ levAts L lv ∗ wins (I c) c ∗ someAt (F := F) c ym ∗ scratch (F := F) c ∗ owed c (O₀ c))

/-- and what it leaves: every counter at zero, the operands as they were, and the result. -/
def talkPost : sProp 𝕄 :=
  iprop(semVal (barCell c) 0 ∗ (bigSep Finset.univ fun k : Fin 8 => semVal (ownCell k c) 0) ∗ wins (I c) c
    ∗ (ym.view.loc (c : Thread nD τ) ↦{fullShare} result I c) ∗ scratch (F := F) c ∗ owed c 0)

theorem whole_set (b : Ref sig .tc) : (Memref.whole b).view.set = Finset.univ := View.set_whole b

theorem someAt_halves (M : Big) (hM : M.view.set = Finset.univ) :
    iprop(∃ f : Buf (Elt F) (M.view.loc (c : Thread nD τ)), M.view.loc (c : Thread nD τ) ↦{fullShare} f) ⊢ iprop((∃ v, slotIs (F := F) M 0 c v) ∗ ∃ v, slotIs (F := F) M 1 c v) := by
  iintro ⟨%f, H⟩
  ihave H := (slots_split M hM c f) $$ H
  icases H with ⟨H0, H1⟩
  isplitl [H0]
  · iapply (slotAny_is M 0 c); iexists f; iexact H0
  iapply (slotAny_is M 1 c); iexists f; iexact H1

/-- A result buffer whose halves read the final sums holds the result. -/
theorem yAt_result : yAt c (fin I c) ⊢ (ym.view.loc (c : Thread nD τ) ↦{fullShare} result I c : sProp 𝕄) := by
  unfold yAt
  iintro ⟨%f, %hf, H⟩
  have h : f = result I c := by
    funext j
    have hb : (j 0).val / 128 < 2 := Nat.div_lt_of_lt_mul (j 0).isLt
    have h0 := congrFun (hf ⟨(j 0).val / 128, hb⟩) (ix2 ⟨(j 0).val % 128, Nat.mod_lt _ (by decide)⟩ ⟨(j 1).val, (j 1).isLt⟩)
    have e : (yr ⟨(j 0).val / 128, hb⟩).emb (ix2 ⟨(j 0).val % 128, Nat.mod_lt _ (by decide)⟩ ⟨(j 1).val, (j 1).isLt⟩) = j := by
      funext a
      match a with
      | ⟨0, _⟩ => exact Fin.ext (show 128 * ((j 0).val / 128) + 1 * ((j 0).val % 128) = (j 0).val by omega)
      | ⟨1, _⟩ => exact Fin.ext (show 0 + 1 * (j 1).val = (j 1).val by omega)
    exact (congrArg f e).symm.trans h0
  subst h
  iexact H

set_option maxHeartbeats 4000000 in
/-- The kernel on one device. -/
theorem run_body (Kt : PUnit → sProp 𝕄) :
    iprop(talkPre I K c ∗ (talkPost I c -∗ Kt ⟨⟩))
      ⊢ wp frame (wpE (defs₀ (F := F)) 𝒱₀ (c : Thread nD τ) none) Set.univ (cc0__body (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6) Kt := by
  rw [cc0__body_eq_skeleton]; unfold cc0__body_skel
  unfold talkPre opened creds payToks scratch
  rw [bigSep_fin8]
  unfold someAt
  iintro ⟨⟨⟨#HR, HatB, ⟨⟨Ha0, #Hq0⟩, ⟨Ha1, #Hq1⟩, ⟨Ha2, #Hq2⟩, ⟨Ha3, #Hq3⟩, ⟨Ha4, #Hq4⟩, ⟨Ha5, #Hq5⟩, ⟨Ha6, #Hq6⟩, ⟨Ha7, #Hq7⟩⟩,
    ⟨HtB1, HtB2, HtR00, HtR01, HtR10, HtR11, HtS00, HtS01, HtS10, HtS11⟩⟩, ⟨HcB, Hc4, Hc5, Hc6, Hc7⟩, #Hlev, Hw, Hy, ⟨⟨%fx, Hx⟩, Hs1, Hr1, Hs2, Hr2⟩, HO⟩, Hk⟩
  ihave Hs1 := (someAt_halves c s1 (whole_set _)) $$ Hs1
  icases Hs1 with ⟨⟨%v10, Hs10⟩, ⟨%v11, Hs11⟩⟩
  ihave Hs2 := (someAt_halves c s2 (whole_set _)) $$ Hs2
  icases Hs2 with ⟨⟨%v20, Hs20⟩, ⟨%v21, Hs21⟩⟩
  ihave Hr1 := (someAt_halves c r1 (whole_set _)) $$ Hr1
  icases Hr1 with ⟨⟨%u10, Hr10⟩, ⟨%u11, Hr11⟩⟩
  ihave Hr2 := (someAt_halves c r2 (whole_set _)) $$ Hr2
  icases Hr2 with ⟨⟨%u20, Hr20⟩, ⟨%u21, Hr21⟩⟩
  icases Hy with ⟨%fy, Hy⟩
  ihave Hy := (show (ym.view.loc (c : Thread nD τ) ↦{fullShare} fy : sProp 𝕄) ⊢ yAt c (fun b => rdy b fy) by
    unfold yAt
    iintro H
    iexists fy
    isplitr; · ipureintro; exact fun _ => rfl
    iexact H) $$ Hy
  ihave Hx := (show (cx.view.loc (c : Thread nD τ) ↦{fullShare} fx : sProp 𝕄) ⊢ cxAt c fx [] from .rfl) $$ Hx
  rw [wp_bind]
  iapply (run1 I K c _)
  isplitl [HO HcB HatB HtB1 HtB2 Hr10 Hr11 Hr20 Hr21 Hw]
  · isplitr; · iexact HR
    isplitr; · iexact Hlev
    isplitl [HO]; · iexact HO
    isplitl [HcB]; · iexact HcB
    isplitl [HatB]; · iexact HatB
    isplitl [HtB1]; · iexact HtB1
    isplitl [HtB2]; · iexact HtB2
    isplitl [Hr10]; · iapply (slotIs_any r1 0 c _); iexact Hr10
    isplitl [Hr11]; · iapply (slotIs_any r1 1 c _); iexact Hr11
    isplitl [Hr20]; · iapply (slotIs_any r2 0 c _); iexact Hr20
    isplitl [Hr21]; · iapply (slotIs_any r2 1 c _); iexact Hr21
    isplitr; · iexact Hq4
    isplitr; · iexact Hq5
    isplitr; · iexact Hq6
    isplitr; · iexact Hq7
    iexact Hw
  iintro ⟨HO, HatB, Hb0, Hb1, Hw⟩
  dsimp (config := { failIfUnchanged := false }) only
  unfold barPay
  icases Hb0 with ⟨Hl00, Hl01, #Hp00, #Hp01⟩
  icases Hb1 with ⟨Hl10, Hl11, #Hp10, #Hp11⟩
  rw [wp_bind]
  iapply (run2 c fx _ _ _ _ _ _ _ _ _ _ _)
  isplitl [Hx]; · iexact Hx
  iintro Hx
  dsimp (config := { failIfUnchanged := false }) only
  rw [wp_bind]
  iapply (run3 c fx _ _ _ _ _)
  isplitl [Hx]; · iexact Hx
  iintro Hx
  dsimp (config := { failIfUnchanged := false }) only
  rw [wp_bind]
  iapply (run4 c fx _ _ _ _ _ _)
  isplitl [Hx]; · iexact Hx
  iintro Hx
  dsimp (config := { failIfUnchanged := false }) only
  rw [wp_bind]
  iapply (run5 c fx _ _ _ _ _ _)
  isplitl [Hx]; · iexact Hx
  iintro Hx
  dsimp (config := { failIfUnchanged := false }) only
  rw [wp_bind]
  iapply (run6 I K c _ fx _ _ _)
  isplitl [Hx Hy Hs10 Hl00 HO HtS00 HtR00]
  · isplitr; · iexact HR
    isplitl [Hx]; · iexact Hx
    isplitl [Hy]; · iexact Hy
    isplitl [Hs10]; · iexact Hs10
    isplitl [Hl00]; · iexact Hl00
    isplitl [HO]; · iexact HO
    isplitl [HtS00]; · iexact HtS00
    isplitr; · iexact Hq0
    isplitl [HtR00]; · iexact HtR00
    iexact Hp00
  iintro ⟨⟨%gx, Hx⟩, Hy, Hc0, HO⟩
  dsimp (config := { failIfUnchanged := false }) only
  rw [wp_bind]
  iapply (run7 c gx _ _ _ _ _ _ _ _ _)
  isplitl [Hx]; · iexact Hx
  iintro Hx
  dsimp (config := { failIfUnchanged := false }) only
  rw [wp_bind]
  iapply (run8 c gx _ _ _ _ _ _ _ _ _ _ _)
  isplitl [Hx]; · iexact Hx
  iintro Hx
  dsimp (config := { failIfUnchanged := false }) only
  rw [wp_bind]
  iapply (run9 c gx _ _ _ _ _)
  isplitl [Hx]; · iexact Hx
  iintro Hx
  dsimp (config := { failIfUnchanged := false }) only
  rw [wp_bind]
  iapply (run10 c gx _ _ _ _ _ _)
  isplitl [Hx]; · iexact Hx
  iintro Hx
  dsimp (config := { failIfUnchanged := false }) only
  rw [wp_bind]
  iapply (run11 I K c _ gx _ _ _)
  isplitl [Hx Hy Hs11 Hl01 HO HtS01 HtR01]
  · isplitr; · iexact HR
    isplitl [Hx]; · iexact Hx
    isplitl [Hy]; · iexact Hy
    isplitl [Hs11]; · iexact Hs11
    isplitl [Hl01]; · iexact Hl01
    isplitl [HO]; · iexact HO
    isplitl [HtS01]; · iexact HtS01
    isplitr; · iexact Hq1
    isplitl [HtR01]; · iexact HtR01
    iexact Hp01
  iintro ⟨⟨%hx, Hx⟩, Hy, Hc1, HO⟩
  dsimp (config := { failIfUnchanged := false }) only
  rw [update_own]
  rw [wp_bind]
  iapply (run12 I K c _ _ _ _)
  isplitl [Hc0 Hc4 HO Ha0 Ha4 Hy Hs20]
  · isplitr; · iexact HR
    isplitr; · iexact Hlev
    isplitl [Hc0]; · iexact Hc0
    isplitl [Hc4]; · iexact Hc4
    isplitl [HO]; · iexact HO
    isplitl [Ha0]; · iexact Ha0
    isplitl [Ha4]; · iexact Ha4
    isplitl [Hy]; · iexact Hy
    iexact Hs20
  iintro ⟨HO, Ha0, Ha4, Hs10, Hr10, Hy, Hs20⟩
  dsimp (config := { failIfUnchanged := false }) only
  rw [wp_bind]
  iapply (run13 I K c _ _)
  isplitl [Hs20 Hl10 HtS10 HtR10 Hc1 Hc5 HO Ha1 Ha5 Hy]
  · isplitr; · iexact HR
    isplitr; · iexact Hlev
    isplitl [Hs20]; · iexact Hs20
    isplitl [Hl10]; · iexact Hl10
    isplitl [HtS10]; · iexact HtS10
    isplitr; · iexact Hq2
    isplitl [HtR10]; · iexact HtR10
    isplitr; · iexact Hp10
    isplitl [Hc1]; · iexact Hc1
    isplitl [Hc5]; · iexact Hc5
    isplitl [HO]; · iexact HO
    isplitl [Ha1]; · iexact Ha1
    isplitl [Ha5]; · iexact Ha5
    iexact Hy
  iintro ⟨Hc2, HO, Ha1, Ha5, Hs11, Hr11, Hy⟩
  dsimp (config := { failIfUnchanged := false }) only
  rw [wp_bind]
  iapply (run14 I K c _ _ _)
  isplitl [Hy Hs21 Hl11 HtS11 HtR11 Hc2 HO Ha2]
  · isplitr; · iexact HR
    isplitr; · iexact Hlev
    isplitl [Hy]; · iexact Hy
    isplitl [Hs21]; · iexact Hs21
    isplitl [Hl11]; · iexact Hl11
    isplitl [HtS11]; · iexact HtS11
    isplitr; · iexact Hq3
    isplitl [HtR11]; · iexact HtR11
    isplitr; · iexact Hp11
    isplitl [Hc2]; · iexact Hc2
    isplitl [HO]; · iexact HO
    iexact Ha2
  iintro ⟨Hy, Hc3, HO, Ha2, Hs20⟩
  dsimp (config := { failIfUnchanged := false }) only
  rw [wp_bind]
  iapply (run15 I K c _ _)
  isplitl [Hc6 Hc3 HO Ha6 Ha3 Hy]
  · isplitr; · iexact HR
    isplitr; · iexact Hlev
    isplitl [Hc6]; · iexact Hc6
    isplitl [Hc3]; · iexact Hc3
    isplitl [HO]; · iexact HO
    isplitl [Ha6]; · iexact Ha6
    isplitl [Ha3]; · iexact Ha3
    iexact Hy
  iintro ⟨HO, Ha6, Ha3, Hr20, Hs21, Hy⟩
  dsimp (config := { failIfUnchanged := false }) only
  simp only [Prog.lift, Prog.bind_op, Prog.bind_ret, Prog.pure_eq_ret]
  iapply (wait_step I K c 7 (Above.zero 3) (le_refl 3) (b := slot r2 1) _ rfl rfl) $$ [Hc7 HO Ha7]
  · isplitr; · iexact HR
    isplitr; · iexact Hlev
    isplitl [Hc7]; · iexact Hc7
    isplitl [HO]; · iexact HO
    iexact Ha7
  iintro ⟨HO, Ha7, Hr21⟩
  ihave Hr21 := (Entails.of_eq (show ownPay I 7 c = slotIs r2 1 c (sent I (p2 c) 1 1) from rfl)) $$ Hr21
  iapply (load_y c 1 (Function.update (pair I c) 0 (fin I c 0)) (pair I c 1) rfl) $$ Hy
  iintro Hy
  iapply (load_slot c r2 1 (sent I (p2 c) 1 1)) $$ Hr21
  iintro Hr21
  iapply (load_y c 1 (Function.update (pair I c) 0 (fin I c 0)) (pair I c 1) rfl) $$ Hy
  iintro Hy
  iapply (store_y c 1 (Function.update (pair I c) 0 (fin I c 0)) (fin I c 1)) $$ Hy
  iintro Hy
  rw [update_fin, wp_ret]
  ihave Hr21 := (slotIs_any r2 1 c _) $$ Hr21
  imod (close_bar I K c) $$ [HatB] with HB
  · isplitr; · iexact HR
    iexact HatB
  imod (close_own I K 0 c) $$ [Ha0] with HS0
  · isplitr; · iexact HR
    iexact Ha0
  imod (close_own I K 1 c) $$ [Ha1] with HS1
  · isplitr; · iexact HR
    iexact Ha1
  imod (close_own I K 2 c) $$ [Ha2] with HS2
  · isplitr; · iexact HR
    iexact Ha2
  imod (close_own I K 3 c) $$ [Ha3] with HS3
  · isplitr; · iexact HR
    iexact Ha3
  imod (close_own I K 4 c) $$ [Ha4] with HS4
  · isplitr; · iexact HR
    iexact Ha4
  imod (close_own I K 5 c) $$ [Ha5] with HS5
  · isplitr; · iexact HR
    iexact Ha5
  imod (close_own I K 6 c) $$ [Ha6] with HS6
  · isplitr; · iexact HR
    iexact Ha6
  imod (close_own I K 7 c) $$ [Ha7] with HS7
  · isplitr; · iexact HR
    iexact Ha7
  imodintro
  iapply Hk
  unfold talkPost scratch someAt
  rw [bigSep_fin8]
  isplitl [HB]; · iexact HB
  isplitl [HS0 HS1 HS2 HS3 HS4 HS5 HS6 HS7]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  isplitl [Hw]; · iexact Hw
  isplitl [Hy]; · iapply (yAt_result I c); iexact Hy
  isplitr [HO]
  · isplitl [Hx]; · iexists hx; iexact Hx
    isplitl [Hs10 Hs11]
    · iapply (slots_join s1 (whole_set _) c); isplitl [Hs10] <;> iassumption
    isplitl [Hr10 Hr11]
    · iapply (slots_join r1 (whole_set _) c); isplitl [Hr10] <;> iassumption
    isplitl [Hs20 Hs21]
    · iapply (slots_join s2 (whole_set _) c); isplitl [Hs20] <;> iassumption
    iapply (slots_join r2 (whole_set _) c); isplitl [Hr20] <;> iassumption
  iexact HO

end Cert.KernelIdeal.Run
-- ==== Proof.KernelIdeal.Region.lean ====
/-
  The kernel as a segment of the program: its proof data, entered with the buffers at any valuation, the obligation on its
  one grid point, and the record the program's run takes.
-/
module

public import proofs.«01_k».proof.Proof.KernelIdeal.Body
public import proofs.«01_k».proof.Proof.Gen.KernelIdeal.Launch
public import proofs.«01_k».proof.Proof.Gen.KernelIdeal.Points
public import proofs.«01_k».proof.Proof.Gen.KernelIdeal.Regions

@[expose] public section

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

-- What every device's buffers hold when the kernel is entered.
variable (V : Dev nD → Valuation τ sig (Elt F)) (c : Dev nD)

/-- The kernel's operands, out of the buffers. -/
def ins (d : Dev nD) : Ins F where
  x := V d (Proc.devRef .tc main_v15)
  w := V d (Proc.devRef .tc main_arg1)
  k := V d (Proc.devRef .tc main_v16)
  v := V d (Proc.devRef .tc main_v17)
  o := V d (Proc.devRef .tc main_arg4)

/-- The buffers after the kernel: the result's array rewritten. -/
def after : Valuation τ sig (Elt F) :=
  Function.update (V c) (Proc.devRef .tc main_v18) (result (ins V) c)

/-! ## The proof data -/

/-- The kernel's state before its one point -/
def phi0 : sProp 𝕄 :=
  iprop(((∃ K, opened (ins V) K c) ∗ creds (F := F) c ∗ levAts L lv) ∗ scratch (F := F) c ∗ ∃ r, prngReg c r)
/-- and after it. -/
def phi1 : sProp 𝕄 :=
  iprop(semVal (barCell c) 0 ∗ (bigSep Finset.univ fun k : Fin 8 => semVal (ownCell k c) 0) ∗ scratch (F := F) c ∗ ∃ r, prngReg c r)

def dats (_ : Fin 1) (c : Dev nD) : Dat τ (Elt F) Unit ℕ UU ℕ cfg0 c where
  A w := V c (Proc.devRef .tc (Pipeline.arrRef spec0 w))
  after w _ := match w with
    | ⟨0, _⟩ => (ins V c).x
    | ⟨1, _⟩ => (ins V c).w
    | ⟨2, _⟩ => (ins V c).k
    | ⟨3, _⟩ => (ins V c).v
    | ⟨4, _⟩ => (ins V c).o
    | ⟨5, _⟩ => result (ins V) c
    | ⟨_ + 6, h⟩ => absurd h (Nat.not_lt.2 (Nat.le_add_left _ _))
  Φ t := match t with
    | ⟨0, _⟩ => phi0 V c
    | ⟨_ + 1, _⟩ => phi1 c
  q _ := fullShare
  owed t := match t with
    | ⟨0, _⟩ => O₀ c
    | ⟨_ + 1, _⟩ => 0

theorem share_full (w : Fin cfg0.W) : (dats V 0 c).share w = fullShare := by
  unfold Dat.share; split <;> rfl

/-! Every window's block is its whole array. -/

omit [FloatOps F] in
theorem read_0 (f : (main_v15 : Ref sig .tc).ty.Contents (Elt F)) : (win0_0.blk t0_0).view.read (Elt F) f = f :=
  Memref.read_access_unit_zero (Elt F) main_v15
    (show (fun a => (win0_0.index t0_0) a * (main_v15 : Ref sig .tc).ty.shape.size a) = fun _ => 0 from
      funext fun a => by fin_cases a <;> decide) (fun a => by fin_cases a <;> decide) f
omit [FloatOps F] in
theorem read_1 (f : (main_arg1 : Ref sig .tc).ty.Contents (Elt F)) : (win0_1.blk t0_0).view.read (Elt F) f = f :=
  Memref.read_access_unit_zero (Elt F) main_arg1
    (show (fun a => (win0_1.index t0_0) a * (main_arg1 : Ref sig .tc).ty.shape.size a) = fun _ => 0 from
      funext fun a => by fin_cases a <;> decide) (fun a => by fin_cases a <;> decide) f
omit [FloatOps F] in
theorem read_2 (f : (main_v16 : Ref sig .tc).ty.Contents (Elt F)) : (win0_2.blk t0_0).view.read (Elt F) f = f :=
  Memref.read_access_unit_zero (Elt F) main_v16
    (show (fun a => (win0_2.index t0_0) a * (main_v16 : Ref sig .tc).ty.shape.size a) = fun _ => 0 from
      funext fun a => by fin_cases a <;> decide) (fun a => by fin_cases a <;> decide) f
omit [FloatOps F] in
theorem read_3 (f : (main_v17 : Ref sig .tc).ty.Contents (Elt F)) : (win0_3.blk t0_0).view.read (Elt F) f = f :=
  Memref.read_access_unit_zero (Elt F) main_v17
    (show (fun a => (win0_3.index t0_0) a * (main_v17 : Ref sig .tc).ty.shape.size a) = fun _ => 0 from
      funext fun a => by fin_cases a <;> decide) (fun a => by fin_cases a <;> decide) f
omit [FloatOps F] in
theorem read_4 (f : (main_arg4 : Ref sig .tc).ty.Contents (Elt F)) : (win0_4.blk t0_0).view.read (Elt F) f = f :=
  Memref.read_access_unit_zero (Elt F) main_arg4
    (show (fun a => (win0_4.index t0_0) a * (main_arg4 : Ref sig .tc).ty.shape.size a) = fun _ => 0 from
      funext fun a => by fin_cases a <;> decide) (fun a => by fin_cases a <;> decide) f
omit [FloatOps F] in
theorem read_5 (f : (main_v18 : Ref sig .tc).ty.Contents (Elt F)) : (win0_5.blk t0_0).view.read (Elt F) f = f :=
  Memref.read_access_unit_zero (Elt F) main_v18
    (show (fun a => (win0_5.index t0_0) a * (main_v18 : Ref sig .tc).ty.shape.size a) = fun _ => 0 from
      funext fun a => by fin_cases a <;> decide) (fun a => by fin_cases a <;> decide) f

theorem before_0 (d) : (dats V 0 c).before (0 : Fin 6) t0_0 d = (ins V c).x := by
  unfold Dat.before; rw [if_pos (fetch0_0 t0_0)]; exact read_0 (V c (Proc.devRef .tc main_v15))
theorem before_1 (d) : (dats V 0 c).before (1 : Fin 6) t0_0 d = (ins V c).w := by
  unfold Dat.before; rw [if_pos (fetch0_1 t0_0)]; exact read_1 (V c (Proc.devRef .tc main_arg1))
theorem before_2 (d) : (dats V 0 c).before (2 : Fin 6) t0_0 d = (ins V c).k := by
  unfold Dat.before; rw [if_pos (fetch0_2 t0_0)]; exact read_2 (V c (Proc.devRef .tc main_v16))
theorem before_3 (d) : (dats V 0 c).before (3 : Fin 6) t0_0 d = (ins V c).v := by
  unfold Dat.before; rw [if_pos (fetch0_3 t0_0)]; exact read_3 (V c (Proc.devRef .tc main_v17))
theorem before_4 (d) : (dats V 0 c).before (4 : Fin 6) t0_0 d = (ins V c).o := by
  unfold Dat.before; rw [if_pos (fetch0_4 t0_0)]; exact read_4 (V c (Proc.devRef .tc main_arg4))

/-- What the kernel writes back is the result, whole. -/
theorem arr_out : (dats V 0 c).arrAt (5 : Fin 6) cfg0.N = result (ins V) c := by
  have hw : ((cfg0.win 5).blk t0_0).view.read (Elt F) ((dats V 0 c).arrAt (5 : Fin 6) cfg0.N) = (dats V 0 c).flushed (5 : Fin 6) t0_0 := by
    rw [show cfg0.N = t0_0.val + 1 from rfl, (dats V 0 c).arrAt_succ (5 : Fin 6) t0_0, flush0_5, if_pos rfl]
    exact View.read_write_univ _ _
  exact (read_5 _).symm.trans (hw.trans (funext fun _ => rfl))

/-! ## The body obligation -/

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(phi0 V c ∗ (dats V 0 c).owesAt () t0_0.castSucc
    ∗ (∃ d, stg c cc0_stg0_0 ((dats V 0 c).before (0 : Fin 6) t0_0 d))
    ∗ (∃ d, stg c cc0_stg1_0 ((dats V 0 c).before (1 : Fin 6) t0_0 d))
    ∗ (∃ d, stg c cc0_stg2_0 ((dats V 0 c).before (2 : Fin 6) t0_0 d))
    ∗ (∃ d, stg c cc0_stg3_0 ((dats V 0 c).before (3 : Fin 6) t0_0 d))
    ∗ (∃ d, stg c cc0_stg4_0 ((dats V 0 c).before (4 : Fin 6) t0_0 d))
    ∗ (∃ d, stg c cc0_stg5_0 ((dats V 0 c).before (5 : Fin 6) t0_0 d)))

def bodyPost : sProp 𝕄 :=
  iprop(phi1 (F := F) c ∗ (dats V 0 c).owesAt () t0_0.succ
    ∗ stg c cc0_stg0_0 (ins V c).x
    ∗ stg c cc0_stg1_0 (ins V c).w
    ∗ stg c cc0_stg2_0 (ins V c).k
    ∗ stg c cc0_stg3_0 (ins V c).v
    ∗ stg c cc0_stg4_0 (ins V c).o
    ∗ stg c cc0_stg5_0 (result (ins V) c))

theorem owes_in : ((dats V 0 c).owesAt () t0_0.castSucc : sProp 𝕄) ⊢ owed c (O₀ c) := by
  unfold Dat.owesAt Pipeline.owesWithin owed
  iintro ⟨%W, -, HO⟩; iexists W; iexact HO
theorem owes_out : (owed c 0 : sProp 𝕄) ⊢ (dats V 0 c).owesAt () t0_0.succ := by
  unfold Dat.owesAt Pipeline.owesWithin owed
  iintro ⟨%W, HO⟩; iexists W; isplitr; · ipureintro; exact fun _ _ => Or.inl trivial
  iexact HO

/-- The kernel's run, in the shape the pipeline calls it in. -/
theorem sound_body (Kt : PUnit → sProp 𝕄) :
    iprop(bodyPre V c ∗ (bodyPost V c -∗ Kt ⟨⟩))
      ⊢ wp frame (wpE (defs₀ (F := F)) 𝒱₀ (c : Thread nD τ) none) Set.univ (cc0__body (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6) Kt := by
  unfold bodyPre phi0
  iintro ⟨⟨⟨⟨⟨%K, Hop⟩, Hcr, Hlev⟩, Hsc, Hp⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩, Hk⟩
  rw [before_0] at h0; subst h0
  rw [before_1] at h1; subst h1
  rw [before_2] at h2; subst h2
  rw [before_3] at h3; subst h3
  rw [before_4] at h4; subst h4
  ihave HO := (owes_in V c) $$ Ho
  iapply (run_body (ins V) K c Kt)
  isplitr [Hk Hp]
  · unfold talkPre wins
    isplitl [Hop]; · iexact Hop
    isplitl [Hcr]; · iexact Hcr
    isplitl [Hlev]; · iexact Hlev
    isplitl [H0 H1 H2 H3 H4]
    · isplitl [H0]; · iexact H0
      isplitl [H1]; · iexact H1
      isplitl [H2]; · iexact H2
      isplitl [H3] <;> iassumption
    isplitl [H5]; · unfold someAt; iexists g5; iexact H5
    isplitl [Hsc]; · iexact Hsc
    iexact HO
  unfold talkPost wins
  iintro ⟨HB, HS, ⟨H0, H1, H2, H3, H4⟩, H5, Hsc, HO⟩
  iapply Hk
  unfold bodyPost phi1
  isplitl [HB HS Hsc Hp]
  · isplitl [HB]; · iexact HB
    isplitl [HS]; · iexact HS
    isplitl [Hsc] <;> iassumption
  isplitl [HO]; · iapply (owes_out V c); iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
theorem body_obligation : BodyObligation (dats V 0 c) (defs₀ (F := F)) 𝒱₀ () Set.univ := fun t => by
  rw [fin_N0 t]
  rw [bigSep_W0, bigSep_W0]
  simp only [owns_whole_eq]
  show bodyPre V c ⊢ wp frame (wpE (defs₀ (F := F)) 𝒱₀ (c : Thread nD τ) none) Set.univ (cc0__body (F := F) xm (Memref.isWhole_whole _) wm (Memref.isWhole_whole _) km (Memref.isWhole_whole _) vm (Memref.isWhole_whole _) om (Memref.isWhole_whole _) ym (Memref.isWhole_whole _) cx (Memref.isWhole_whole _) s1 (Memref.isWhole_whole _) r1 (Memref.isWhole_whole _) s2 (Memref.isWhole_whole _) r2 (Memref.isWhole_whole _) cc0_scratch5 cc0_scratch6) (fun _ => bodyPost V c)
  iintro H
  iapply (sound_body V c fun _ => bodyPost V c)
  isplitl [H]; · iexact H
  iintro H; iexact H

/-! ## The segment -/

/-- Kept for the kernel from the launch on, -/
def kept : sProp 𝕄 := iprop((∃ K, ghost (ins V) K c) ∗ creds (F := F) c)
/-- inside it, -/
def inside : sProp 𝕄 := iprop((∃ K, opened (ins V) K c) ∗ creds (F := F) c ∗ levAts L lv)
/-- and after it. -/
def left : sProp 𝕄 := semVal (barCell c) 0

theorem open_all (K : GSem nD τ sig → ℕ) :
    iprop(records (ins V) K ∗ (bigSep Finset.univ fun k : Fin 8 => openTok ER (ownCell k c)) ∗ (bigSep Finset.univ fun k : Fin 8 => semVal (ownCell k c) 0))
      ⊢ (|={Set.univ}=> (bigSep Finset.univ fun k : Fin 8 => iprop(atPos ER (ownCell k c) 0 ∅ 0 ∗ reached ER (ownCell k c) 0)) : sProp 𝕄) := by
  rw [bigSep_fin8, bigSep_fin8, bigSep_fin8]
  iintro ⟨#HR, ⟨T0, T1, T2, T3, T4, T5, T6, T7⟩, ⟨S0, S1, S2, S3, S4, S5, S6, S7⟩⟩
  imod (open_one (ins V) K 0 c) $$ [T0 S0] with A0
  · isplitr; · iexact HR
    isplitl [T0] <;> iassumption
  imod (open_one (ins V) K 1 c) $$ [T1 S1] with A1
  · isplitr; · iexact HR
    isplitl [T1] <;> iassumption
  imod (open_one (ins V) K 2 c) $$ [T2 S2] with A2
  · isplitr; · iexact HR
    isplitl [T2] <;> iassumption
  imod (open_one (ins V) K 3 c) $$ [T3 S3] with A3
  · isplitr; · iexact HR
    isplitl [T3] <;> iassumption
  imod (open_one (ins V) K 4 c) $$ [T4 S4] with A4
  · isplitr; · iexact HR
    isplitl [T4] <;> iassumption
  imod (open_one (ins V) K 5 c) $$ [T5 S5] with A5
  · isplitr; · iexact HR
    isplitl [T5] <;> iassumption
  imod (open_one (ins V) K 6 c) $$ [T6 S6] with A6
  · isplitr; · iexact HR
    isplitl [T6] <;> iassumption
  imod (open_one (ins V) K 7 c) $$ [T7 S7] with A7
  · isplitr; · iexact HR
    isplitl [T7] <;> iassumption
  imodintro
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

theorem ownSems_eq : (Pipeline.ownSems0 (Ix := Unit) (Val := Elt F) (Name := ℕ) (U := UU) (Lvl := ℕ) osem c : sProp 𝕄)
    = bigSep Finset.univ fun k : Fin 8 => semVal (ownCell k c) 0 := rfl

theorem hopen : iprop(kept V c ∗ Pipeline.ownSems0 osem c ∗ levAts L lv) ⊢ (|={Set.univ}=> inside V c : sProp 𝕄) := by
  rw [ownSems_eq]
  unfold kept inside ghost opened
  iintro ⟨⟨⟨%K, #HR, Hat, Ho, Ht⟩, Hc⟩, Hs, Hlev⟩
  imod (open_all V c K) $$ [Ho Hs] with H
  · isplitr; · iexact HR
    isplitl [Ho] <;> iassumption
  imodintro
  isplitr [Hc Hlev]
  · iexists K
    isplitr; · iexact HR
    isplitl [Hat]; · iexact Hat
    isplitl [H] <;> iassumption
  isplitl [Hc] <;> iassumption

/-- The buffers no window stages are the scratch arrays. -/
theorem scoped_eq : (Pipeline.scopedRest (Ix := Unit) (Val := Elt F) (Name := ℕ) (U := UU) (Lvl := ℕ) spec0 c : sProp 𝕄) = scratch c :=
  (scopedRest0_eq c).trans rfl

theorem hin : iprop(Pipeline.scopedRest (Pipeline.pin (pcfgs (F := F)) adm 0).spec c ∗ (∃ r, prngReg c r) ∗ StableHlo.held (c.tc : Thread nD τ) ∅ (V c) ∗ inside V c)
    ⊢ (dats V 0 c).Φ 0 := by
  show _ ⊢ phi0 V c
  unfold phi0 inside
  iintro ⟨Hs, Hp, -, HX⟩
  isplitl [HX]; · iexact HX
  isplitl [Hs]; · iapply (Entails.of_eq (scoped_eq c)); iexact Hs
  iexact Hp

theorem hout : (dats V 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (after V c) ∗ Pipeline.ownSems0 osem c ∗ left (F := F) c) := by
  show phi1 (F := F) c ⊢ _
  rw [ownSems_eq]
  unfold phi1 left
  iintro ⟨HB, HS, Hs, Hp⟩
  isplitl [Hs]; · iapply (Entails.of_eq (scoped_eq c).symm); iexact Hs
  isplitl [Hp]; · iexact Hp
  isplitr; · unfold StableHlo.held; rw [BI.bigSep_empty]; iempintro
  isplitl [HS] <;> iassumption

/-- The buffers the kernel does not reach. -/
abbrev others : Finset (DevRef τ sig) := Pipeline.ucRefs τ sig \ Pipeline.arrRefs (τ := τ) spec0

theorem arr_mem : Proc.devRef (τ := τ) .tc (main_v18 : Ref sig .tc) ∈ Pipeline.arrRefs (τ := τ) spec0 := by decide

theorem after_others (b : DevRef τ sig) (hb : b ∈ others) : after V c b = V c b :=
  Function.update_of_ne (fun h => (Finset.mem_sdiff.mp hb).2 (by rw [h]; exact arr_mem)) _ _

theorem cut_owed (t : Fin ((Pipeline.pin (pcfgs (F := F)) adm 0).N + 1)) (g : GSem nD τ sig) (i : Unit) (h : 0 < (dats V 0 c).owed t g i) :
    i ∈ L g ∧ (0 : ℕ) < lv g i := by
  rcases t with ⟨_ | n, ht⟩
  · exact above0 c g i h
  · exact absurd h (Nat.lt_irrefl 0)

theorem arr_in (w : Fin 6) : (dats V 0 c).arrAt w 0 = V c (Proc.devRef .tc (Pipeline.arrRef spec0 w)) := rfl

theorem arr_ne : ∀ w : Fin 6, w ≠ 5 →
    Proc.devRef (τ := τ) .tc (Pipeline.arrRef spec0 w) ≠ Proc.devRef .tc (main_v18 : Ref sig .tc) := by decide

/-- The staging semaphores come before the kernel's own. -/
theorem stage_low : ∀ (w : Fin 6) (s : Fin (spec0 w).nbuf), ((spec0 w).sem s).val < 10 := by decide

theorem arr_after (w : Fin 6) : (dats V 0 c).arrAt w cfg0.N = after V c (Proc.devRef .tc (Pipeline.arrRef spec0 w)) := by
  by_cases h : w = 5
  · subst h
    refine (arr_out V c).trans ?_
    exact (Function.update_self (Proc.devRef .tc main_v18) (result (ins V) c) (V c)).symm
  · rw [(dats V 0 c).arrAt_in w (by revert w; decide)]
    exact (Function.update_of_ne (arr_ne w h) _ _).symm

set_option backward.isDefEq.respectTransparency.types false in
/-- The kernel's record. -/
def reg : Pipeline.RegionSeg (pcfgs (F := F)) adm (dats V) () defs₀ 𝒱₀ L lv 0 :=
  Pipeline.RegionSeg.ofTalk (pcfgs (F := F)) adm (dats V) () defs₀ 𝒱₀ L lv 0 osem (by decide : Pipeline.OwnSemFacts spec0 osem)
    ∅ others (Finset.empty_subset _) (launch0.toP) rfl (fun c => (body_obligation V c).loose)
    (fun _ => 0) O₀ (fun c => (zero_add (O₀ c)).symm) (fun _ => rfl) (fun _ => rfl) (share_full V)
    V (after V) (fun c b hb => after_others V c b (Finset.mem_sdiff.mp hb).1)
    (kept V) left (inside V) left (hopen V) (hin V) (hout V)
    (fun c => by iintro H; imodintro; iexact H)
    (fun _ => 0)
    ⟨fun c w s => by rw [L_tc]; exact Finset.mem_singleton_self _, fun c w s => by show (if ((spec0 w).sem s).val < 10 then 0 else _) ≤ 0; rw [if_pos (stage_low w s)], fun c t g i h => cut_owed V c t g i h⟩
    (fun _ => iprop(emp))
    (arr_in V) (arr_after V)

theorem arr_sub : Pipeline.arrRefs (τ := τ) spec0 ⊆ Pipeline.ucRefs τ sig := by decide

/-- The unscoped buffers together: the kernel's arrays and the others. -/
theorem held_arrs (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) others W) :=
  StableHlo.held_sub_split (c : Thread nD τ) arr_sub W

/-- What a device carries beside its buffers up to the kernel. -/
def rest : sProp 𝕄 := iprop(kept V c ∗ (∃ r, prngReg c r) ∗ owed c (O₀ c))

theorem reg_pre : iprop(StableHlo.held (c : Thread nD τ) (Pipeline.ucRefs τ sig) (V c) ∗ rest V c) ⊢ (reg V).pre c := by
  show _ ⊢ iprop(StableHlo.held (c.tc : Thread nD τ) (Pipeline.arrRefs (τ := τ) spec0) (V c) ∗ (∃ r, prngReg c r)
    ∗ (StableHlo.held (c.tc : Thread nD τ) others (V c) ∗ emp) ∗ kept V c ∗ ∃ Wd, owes (c : Thread nD τ) (0 + O₀ c) Wd)
  rw [held_arrs, zero_add]
  unfold rest owed
  iintro ⟨⟨Ha, Hr⟩, HK, Hp, HO⟩
  isplitl [Ha]; · iexact Ha
  isplitl [Hp]; · iexact Hp
  isplitl [Hr]
  · isplitl [Hr]; · iexact Hr
    iempintro
  isplitl [HK] <;> iassumption

theorem reg_post : (reg V).post c ⊢ iprop(StableHlo.held (c : Thread nD τ) (Pipeline.ucRefs τ sig) (after V c) ∗ (semVal (barCell c) 0 ∗ owed c 0)) := by
  show iprop(StableHlo.held (c.tc : Thread nD τ) (Pipeline.arrRefs (τ := τ) spec0) (after V c) ∗ (∃ r, prngReg c r)
    ∗ (StableHlo.held (c.tc : Thread nD τ) others (after V c) ∗ emp) ∗ left (F := F) c ∗ ∃ Wd, owes (c : Thread nD τ) (0 : CellTallies nD τ sig Unit) Wd) ⊢ _
  rw [held_arrs]
  unfold left owed
  iintro ⟨Ha, -, ⟨Hr, -⟩, HB, HO⟩
  isplitl [Ha Hr]
  · isplitl [Ha] <;> iassumption
  isplitl [HB] <;> iassumption

end Cert.KernelIdeal.Run
-- ==== Proof.KernelIdeal.Launch.lean ====
/-
  The launch of the whole program: the cells funded, the tokens and the credit dealt, and the run of the host stretches
  around the kernel, to the final memory.
-/
module

public import proofs.«01_k».proof.Proof.KernelIdeal.Region
public import Idealize.ShloMosaic.Lib.Quiescent

@[expose] public section

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The tokens -/

/-- The ten duties of a device's cells: the two of its barrier cell, then one per own cell, received before sent. -/
abbrev tsem : Fin 10 → SemLoc sig × Fin 2
  | 0 => (.reg barS, 0)
  | 1 => (.reg barS, 1)
  | 2 => (osem (rk 0 0), 0)
  | 3 => (osem (rk 0 1), 0)
  | 4 => (osem (rk 1 0), 0)
  | 5 => (osem (rk 1 1), 0)
  | 6 => (osem (sk 0 0), 0)
  | 7 => (osem (sk 0 1), 0)
  | 8 => (osem (sk 1 0), 0)
  | 9 => (osem (sk 1 1), 0)

theorem tsem_inj : Function.Injective tsem := by decide

def talkToks : Finset (GSem nD τ sig × ℕ × Fin 2) :=
  Finset.univ.map ⟨fun ck : Dev nD × Fin 10 => (((ck.1 : Thread nD τ), (tsem ck.2).1), 0, (tsem ck.2).2), fun _ _ h =>
    Prod.ext (congrArg (fun t : GSem nD τ sig × ℕ × Fin 2 => t.1.1.1) h)
      (tsem_inj (Prod.ext (congrArg (fun t : GSem nD τ sig × ℕ × Fin 2 => t.1.2) h) (congrArg (fun t : GSem nD τ sig × ℕ × Fin 2 => t.2.2) h)))⟩

/-- The tokens of the duties of device `c`'s own cells. -/
def toks (c : Dev nD) : sProp 𝕄 :=
  iprop(dutyTok ER (barCell c) 0 0 ∗ dutyTok ER (barCell c) 0 1
    ∗ dutyTok ER (recvCell 0 0 c) 0 0 ∗ dutyTok ER (recvCell 0 1 c) 0 0
    ∗ dutyTok ER (recvCell 1 0 c) 0 0 ∗ dutyTok ER (recvCell 1 1 c) 0 0
    ∗ dutyTok ER (sendCell 0 0 c) 0 0 ∗ dutyTok ER (sendCell 0 1 c) 0 0
    ∗ dutyTok ER (sendCell 1 0 c) 0 0 ∗ dutyTok ER (sendCell 1 1 c) 0 0)

theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem toks_eq : bigSep talkToks (fun x => (dutyTok ER x.1 x.2.1 x.2.2 : sProp 𝕄)) = bigSep Finset.univ fun c : Dev nD => toks c := by
  unfold talkToks; rw [bigSep_map, bigSep_univ_prod]
  exact bigSep_congr fun c _ => by unfold toks; rw [bigSep_fin10]; rfl

/-- Every device gets the tokens of the duties it pays: those of its partners' barrier and receive cells, and its own send
    cells'. -/
theorem toks_around :
    (bigSep Finset.univ fun c : Dev nD => (toks c : sProp 𝕄)) ⊢ bigSep Finset.univ fun c : Dev nD => payToks c := by
  unfold toks payToks
  simp only [bigSep_sep']
  rw [bigSep_univ_equiv e1 (fun c : Dev nD => (dutyTok ER (barCell c) 0 0 : sProp 𝕄)),
    bigSep_univ_equiv e2 (fun c : Dev nD => (dutyTok ER (barCell c) 0 1 : sProp 𝕄)),
    bigSep_univ_equiv e1 (fun c : Dev nD => (dutyTok ER (recvCell 0 0 c) 0 0 : sProp 𝕄)),
    bigSep_univ_equiv e1 (fun c : Dev nD => (dutyTok ER (recvCell 0 1 c) 0 0 : sProp 𝕄)),
    bigSep_univ_equiv e2 (fun c : Dev nD => (dutyTok ER (recvCell 1 0 c) 0 0 : sProp 𝕄)),
    bigSep_univ_equiv e2 (fun c : Dev nD => (dutyTok ER (recvCell 1 1 c) 0 0 : sProp 𝕄))]
  exact BI.Entails.refl _

/-! ## The launch credit -/

theorem creds_launch (c : Dev nD) : (Pipeline.launchCred O₀ c : sProp 𝕄) ⊢ creds c := by
  have h (sm : SemLoc sig) (n : ℕ) : (Pipeline.launchCred (fun d => tallyAt ((p1 d : Thread nD τ), sm) () n) c : sProp 𝕄)
      ⊢ cred (tallyAt ((c : Thread nD τ), sm) () n) := Pipeline.launchCred_tallyAt sm p1 p1 p1_p1 p1_p1 () n c
  have h' (sm : SemLoc sig) (n : ℕ) : (Pipeline.launchCred (fun d => tallyAt ((p2 d : Thread nD τ), sm) () n) c : sProp 𝕄)
      ⊢ cred (tallyAt ((c : Thread nD τ), sm) () n) := Pipeline.launchCred_tallyAt sm p2 p2 p2_p2 p2_p2 () n c
  have hs : (Pipeline.launchCred O₀ c : sProp 𝕄)
      = iprop((((((Pipeline.launchCred (fun _ => (0 : CellTallies nD τ sig Unit)) c
          ∗ Pipeline.launchCred (fun d => tallyAt (recvCell 1 1 (p2 d)) () N) c)
          ∗ Pipeline.launchCred (fun d => tallyAt (recvCell 1 0 (p2 d)) () N) c)
          ∗ Pipeline.launchCred (fun d => tallyAt (recvCell 0 1 (p1 d)) () N) c)
          ∗ Pipeline.launchCred (fun d => tallyAt (recvCell 0 0 (p1 d)) () N) c)
          ∗ Pipeline.launchCred (fun d => tallyAt (barCell (p2 d)) () 1) c)
          ∗ Pipeline.launchCred (fun d => tallyAt (barCell (p1 d)) () 1) c) := by
    rw [← Pipeline.launchCred_add, ← Pipeline.launchCred_add, ← Pipeline.launchCred_add, ← Pipeline.launchCred_add,
      ← Pipeline.launchCred_add, ← Pipeline.launchCred_add]
    rfl
  rw [hs]
  unfold creds
  iintro ⟨⟨⟨⟨⟨⟨-, H11⟩, H10⟩, H01⟩, H00⟩, HB2⟩, HB1⟩
  ihave HB1 := (h (.reg barS) 1) $$ HB1
  ihave HB2 := (h' (.reg barS) 1) $$ HB2
  isplitl [HB1 HB2]
  · iapply (Entails.of_eq (congrArg cred (tallyAt_add (barCell c) () 1 1)))
    iapply (cred_add _ _).2
    isplitl [HB1] <;> iassumption
  isplitl [H00]; · iapply (h (osem (rk 0 0)) N); iexact H00
  isplitl [H01]; · iapply (h (osem (rk 0 1)) N); iexact H01
  isplitl [H10]; · iapply (h' (osem (rk 1 0)) N); iexact H10
  iapply (h' (osem (rk 1 1)) N); iexact H11

/-! ## The launch -/

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The user algebra's element at launch. -/
def u₀ : UU :=
  (initOf (Pipeline.cells cfgs cellOf_inj) (Pipeline.launchToks cfgs cellOf_inj), launchOf barCells ownCells talkToks)

/-- A resource handed to device 0 and to no other. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp 𝕄 := onFirst (BI.own (ER (launchOf barCells ownCells talkToks)))

variable (m : (ℓ : Loc nD τ sig) → Buf (Elt F) ℓ) (ρ : Dev nD → PrngReg)

/-- What stays with device `c` of the funded cells: its place on its barrier cell, the rights to open its own cells, and
    the tokens it pays with. -/
def linear (c : Dev nD) : sProp 𝕄 :=
  iprop(atPos ER (barCell c) 0 ∅ 0 ∗ (bigSep Finset.univ fun k : Fin 8 => openTok ER (ownCell k c)) ∗ payToks (F := F) c)

/-- The rest of what a device is launched with. -/
def bundle (c : Dev nD) : sProp 𝕄 :=
  iprop(StableHlo.held (c : Thread nD τ) (Pipeline.ucRefs τ sig) (V0 m c) ∗ creds (F := F) c
    ∗ owes (c : Thread nD τ) (O₀ c) ∅ ∗ ∃ r, prngReg c r)

abbrev T₀ (c : Dev nD) : sProp 𝕄 :=
  iprop(StableHlo.held (c : Thread nD τ) (Pipeline.ucRefs τ sig) (V0 m c) ∗ rest (V1 m) c)

theorem T₀_intro (κ : GSem nD τ sig → ℕ) (c : Dev nD) :
    iprop(records (ins (V1 m)) κ ∗ (linear c ∗ bundle m c)) ⊢ T₀ m c := by
  unfold linear bundle T₀ rest kept ghost owed
  iintro ⟨#HR, ⟨Hat, Ho, Ht⟩, Hh, Hc, HO, Hp⟩
  isplitl [Hh]; · iexact Hh
  isplitl [Hat Ho Ht Hc]
  · isplitr [Hc]
    · iexists κ
      isplitr; · iexact HR
      isplitl [Hat]; · iexact Hat
      isplitl [Ho] <;> iassumption
    · iexact Hc
  isplitl [Hp]; · iexact Hp
  iexists ∅; iexact HO

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c.tc : Thread nD τ).loc b))
        = StableHlo.held (c : Thread nD τ) (Pipeline.ucRefs τ sig) (V0 m c) from
        Pipeline.unscopedBufs_held (Ix := Unit) (Name := ℕ) (U := UU) (Lvl := ℕ) c (V0 m c), unscopedSems_eq]
    unfold bundle
    iintro ⟨Hh, Hus, HO, Hcr, Hp, HG⟩
    ihave Hc := (creds_launch (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : Fin 8 => openTok ER (ownCell k c)) :=
    Entails.of_eq (by rw [bigSep_map, bigSep_univ_prod]; rfl)
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells ownCells talkToks)) from
    Entails.of_eq (bigSep_onFirst (F := F) (BI.own (ER (launchOf barCells ownCells talkToks))))) $$ HG
  imod (Rounds.fund_launch ER (talkRd (ins (V1 m))) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records (ins (V1 m)) κ) (Φ := fun c => iprop(linear c ∗ bundle m c)) fun c _ => T₀_intro m κ c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopen $$ Hopen
    iapply (toks_around (F := F))
    iapply (Entails.of_eq (toks_eq (F := F))) $$ Htok
  · iexact HB

/-! ## The run -/

/-- What the kernel leaves in its result's array. -/
def outs : Outs (F := F) := fun _ r c => after (V1 m) c (Proc.devRef .tc r)

theorem V2_eq (c : Dev nD) : V2 m (outs m) c = after (V1 m) c :=
  congrArg (Function.update (V1 m c) (Proc.devRef .tc main_v18))
    (show after (V1 m) c (Proc.devRef .tc main_v18) = _ from Function.update_self _ _ _)

/-- What rides along a host stretch: up to the kernel, and after it. -/
def riding : Fin 2 → Dev nD → sProp 𝕄
  | 0 => rest (V1 m)
  | 1 => fun c => iprop(semVal (barCell c) 0 ∗ owed c 0)

theorem unscoped_eq : ∀ sm : SemLoc sig, sm.isScoped .tc = false → sm = .reg barS := by decide

theorem region_in (c : Dev nD) : iprop(StableHlo.held (c : Thread nD τ) (Pipeline.ucRefs τ sig) (V1 m c) ∗ riding m 0 c) ⊢ (reg (V1 m)).pre c :=
  reg_pre (V1 m) c

theorem region_out (c : Dev nD) : (reg (V1 m)).post c
    ⊢ iprop(StableHlo.held (c : Thread nD τ) (Pipeline.ucRefs τ sig) (V2 m (outs m) c) ∗ riding m 1 c) := by
  rw [V2_eq]; exact reg_post (V1 m) c

/-- What a device ends with. -/
abbrev Tₙ (c : Dev nD) : sProp 𝕄 :=
  iprop(StableHlo.held (c : Thread nD τ) (Pipeline.ucRefs τ sig) (V3 m (outs m) c) ∗ semVal (barCell c) 0)

theorem final_out (c : Dev nD) :
    iprop(StableHlo.held (c : Thread nD τ) (Pipeline.ucRefs τ sig) (V3 m (outs m) c) ∗ riding m 1 c)
      ⊢ iprop(Tₙ m c ∗ ∃ W, owes (c.tc : Thread nD τ) (0 : CellTallies nD τ sig Unit) W) := by
  show iprop(StableHlo.held (c : Thread nD τ) (Pipeline.ucRefs τ sig) (V3 m (outs m) c) ∗ (semVal (barCell c) 0 ∗ owed c 0)) ⊢ _
  unfold owed
  iintro ⟨Hh, Hb, HO⟩
  isplitr [HO]
  · isplitl [Hh] <;> iassumption
  · iexact HO

theorem buf_mem (r : Ref sig .tc) (h : (Proc.devRef (τ := τ) .tc r).isScoped = false) : Proc.devRef (τ := τ) .tc r ∈ Pipeline.ucRefs τ sig :=
  Finset.mem_filter.mpr ⟨StableHlo.devRef_mem_tcRefs r, by rw [h]; decide⟩

/-- The final memory of device `c`, and its barrier counter. -/
def Ends (c : Dev nD) (s : MemSt nD τ sig (Elt F)) : Prop :=
  (∀ b ∈ Pipeline.ucRefs τ sig, s.mem ((c : Thread nD τ).1, b) = V3 m (outs m) c b) ∧ s.sem (barCell c) = 0

set_option backward.isDefEq.respectTransparency.types false in
/-- Every weakly fair run of the program from a memory with zero counters ends, with every array outside the kernel's
    scratch at the contents the host stretches and the kernel leave there and every counter at zero. -/
theorem run_main : θ_run defs (onTc (τ := τ) (main (F := F))) ⟨m, fun _ => 0, ρ⟩
    (fun r => (∀ c : Dev nD, ∀ b ∈ Pipeline.ucRefs τ sig, r.2.mem ((c : Thread nD τ).1, b) = V3 m (outs m) c b) ∧ r.2.sem = fun _ => 0) :=
  Pipeline.θ_run_regions_kit_dev_sems (pcfgs (F := F)) adm (dats (V1 m)) () cellOf_inj EP defs₀ 𝒱₀ L lv m ρ main
    (segs m (outs m) 𝒱₀ L lv (riding m) () (dats (V1 m)) (reg (V1 m)))
    (fun c Q => by
      rewrite [main_chain c, Pipeline.Seg.run_eq_chain,
        show (segs m (outs m) 𝒱₀ L lv (riding m) () (dats (V1 m)) (reg (V1 m)) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onFirst]; iexact HX)
    (T₀ := T₀ m) (Tₙ := Tₙ m)
    (hch := fun c => ⟨.rfl, region_in m c, region_out m c, final_out m c⟩)
    (hinit := init m ρ)
    (QY := Ends m)
    (hfin := fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1, sem_eq_zero hs fun c sm hsm => by
      obtain rfl := unscoped_eq sm hsm
      exact (h c).2⟩)

/-- The arrays a device is launched with end as they began. -/
theorem args_kept (c : Dev nD) (s : MemSt nD τ sig (Elt F))
    (h : ∀ b ∈ Pipeline.ucRefs τ sig, s.mem ((c : Thread nD τ).1, b) = V3 m (outs m) c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4) :=
  ⟨(h _ (buf_mem main_arg0 rfl)).trans (V3_main_arg0 m (outs m) c), (h _ (buf_mem main_arg1 rfl)).trans (V3_main_arg1 m (outs m) c),
    (h _ (buf_mem main_arg2 rfl)).trans (V3_main_arg2 m (outs m) c), (h _ (buf_mem main_arg3 rfl)).trans (V3_main_arg3 m (outs m) c),
    (h _ (buf_mem main_arg4 rfl)).trans (V3_main_arg4 m (outs m) c)⟩

/-- What the program returns on device `c`: the kernel's result, its rows regrouped by batch. -/
def returned (c : Dev nD) : Buf (Elt F) ((c.tc : Thread nD τ).loc main_v19) :=
  shapeCast S2x128x512 (result (ins (V1 m)) c) shapeCasts_S256x512_S2x128x512

theorem V3_returned (c : Dev nD) : V3 m (outs m) c (Proc.devRef .tc main_v19) = returned m c := by
  have h : V2 m (outs m) c (Proc.devRef .tc main_v18) = result (ins (V1 m)) c := by
    rw [V2_eq]; exact Function.update_self _ _ _
  refine (StableHlo.reshape_result main_v18 main_v19 rfl shapeCasts_S256x512_S2x128x512 ⟨by decide, rfl⟩ ⟨by decide, rfl⟩
    (V2 m (outs m) c)).trans ?_
  unfold returned
  rw [h]; rfl

/-- Every weakly fair run ends with each device's result at the value computed here, its arguments as they began, and
    every counter at zero. -/
theorem run_returned : θ_run defs (onTc (τ := τ) (main (F := F))) ⟨m, fun _ => 0, ρ⟩
    (fun r => (∀ c : Dev nD, r.2.mem ((c.tc : Thread nD τ).loc main_v19) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(h.1 c _ (buf_mem main_v19 rfl)).trans (V3_returned m c), args_kept m c r.2 (h.1 c)⟩, h.2⟩)
    (run_main m ρ)

end Cert.KernelIdeal.Run
-- ==== Proof.Value.Row.lean ====
/-
  One row of an attention head over the extended reals: the kernel's way of normalising (weigh, sum, then multiply by one
  over the sum of the weights) and the reference's (divide every weight by the sum, then weigh and sum) agree when the
  scores are real numbers, whatever the values are; and a key whose score is -∞ changes nothing.
-/
module

public import Idealize.ShloMosaic.PureOps.Ideal.Laws
public import Idealize.ShloMosaic.Lib.IdealHost

@[expose] public section

noncomputable section

namespace Cert.Value

open Idealize.ShloMosaic
open scoped BigOperators

section Row
variable {ι κ : Type} [Fintype ι] [Fintype κ]

/-- The greatest score of a row. -/
def top (s : ι → EReal) : EReal := Finset.univ.fold max ⊥ s

/-- The weight of key `j`: the exponential of its score less the greatest. -/
def wt (s : ι → EReal) (j : ι) : EReal := Ideal.exp (s j - top s)

/-- The row as the kernel computes it: weigh the values, sum, and multiply by one over the sum of the weights. -/
def kerRow (s v : ι → EReal) : EReal := (∑ j, wt s j * v j) * Ideal.div 1 (∑ j, wt s j)

/-- The row as the reference computes it: divide each weight by the sum of the weights, weigh the values and sum. -/
def refRow (s v : ι → EReal) : EReal := ∑ j, v j * Ideal.div (wt s j) (∑ j, wt s j)

/-- The greatest score is the supremum of the scores. -/
theorem top_eq_sup (s : ι → EReal) : top s = Finset.univ.sup s := rfl

/-- Of real scores, at least one, the greatest is real. -/
theorem top_real [Nonempty ι] {s : ι → EReal} (hs : ∀ j, ∃ r : ℝ, s j = r) : ∃ r : ℝ, top s = r := by
  obtain ⟨j, -, hj⟩ := Finset.exists_mem_eq_sup (Finset.univ : Finset ι) Finset.univ_nonempty s
  obtain ⟨r, hr⟩ := hs j
  exact ⟨r, by rw [top_eq_sup, hj, hr]⟩

/-- Of real scores every weight is a positive real. -/
theorem wt_real [Nonempty ι] {s : ι → EReal} (hs : ∀ j, ∃ r : ℝ, s j = r) :
    ∃ e : ι → ℝ, (∀ j, 0 < e j) ∧ ∀ j, wt s j = e j := by
  obtain ⟨M, hM⟩ := top_real hs
  choose r hr using hs
  refine ⟨fun j => Real.exp (r j - M), fun j => Real.exp_pos _, fun j => ?_⟩
  rw [wt, hM, hr, ← EReal.coe_sub, Ideal.exp_coe]

/-- A sum of reals read as extended reals is the real sum. -/
theorem coe_sum (e : ι → ℝ) : (∑ j, (e j : EReal)) = ((∑ j, e j : ℝ) : EReal) := by
  classical
  induction (Finset.univ : Finset ι) using Finset.induction_on with
  | empty => simp
  | insert a t ha ih => rw [Finset.sum_insert ha, Finset.sum_insert ha, ih, EReal.coe_add]

/-- A nonnegative real factor goes into a sum of extended reals. -/
theorem sum_mul_coe (f : ι → EReal) {c : ℝ} (hc : 0 ≤ c) : (∑ j, f j) * (c : EReal) = ∑ j, f j * (c : EReal) := by
  classical
  induction (Finset.univ : Finset ι) using Finset.induction_on with
  | empty => simp
  | insert a t ha ih =>
    rw [Finset.sum_insert ha, Finset.sum_insert ha,
      EReal.right_distrib_of_nonneg_of_ne_top (EReal.coe_nonneg.2 hc) (EReal.coe_ne_top c), ih]

/-- The two ways of normalising agree on a row of real scores, whatever extended reals the values are. -/
theorem kerRow_eq_refRow [Nonempty ι] {s : ι → EReal} (hs : ∀ j, ∃ r : ℝ, s j = r) (v : ι → EReal) :
    kerRow s v = refRow s v := by
  obtain ⟨e, he, hw⟩ := wt_real hs
  have hS : 0 < ∑ j, e j := Finset.sum_pos (fun j _ => he j) Finset.univ_nonempty
  have hsum : (∑ j, wt s j) = ((∑ j, e j : ℝ) : EReal) := by
    rw [← coe_sum]; exact Finset.sum_congr rfl fun j _ => hw j
  unfold kerRow refRow
  rw [hsum, Ideal.div_coe hS.ne', one_mul, sum_mul_coe _ (by positivity)]
  refine Finset.sum_congr rfl fun j _ => ?_
  rw [Ideal.div_coe hS.ne', mul_comm (wt s j) (v j), mul_assoc]

/-- A sum whose terms vanish off the range of an injection is the sum over its source. -/
theorem sum_range (e : κ ↪ ι) (f : ι → EReal) (hf : ∀ j, j ∉ Set.range e → f j = 0) : ∑ j, f j = ∑ k, f (e k) := by
  classical
  rw [← Finset.sum_map Finset.univ e f]
  refine (Finset.sum_subset (Finset.subset_univ _) fun j _ hj => hf j fun ⟨k, hk⟩ => hj ?_).symm
  exact Finset.mem_map.2 ⟨k, Finset.mem_univ k, hk⟩

/-- Keys of score -∞ do not change the greatest score. -/
theorem top_range (e : κ ↪ ι) (s : ι → EReal) (hs : ∀ j, j ∉ Set.range e → s j = ⊥) : top s = top (s ∘ e) := by
  classical
  rw [top_eq_sup, top_eq_sup]
  refine le_antisymm (Finset.sup_le fun j _ => ?_) (Finset.sup_le fun k _ => Finset.le_sup (f := s) (Finset.mem_univ _))
  by_cases h : j ∈ Set.range e
  · obtain ⟨k, rfl⟩ := h
    exact Finset.le_sup (f := s ∘ e) (Finset.mem_univ k)
  · rw [hs j h]; exact bot_le

/-- Nor do they change the row: their weights are zero. -/
theorem refRow_range (e : κ ↪ ι) (s v : ι → EReal) (hs : ∀ j, j ∉ Set.range e → s j = ⊥) (hne : ∑ k, wt (s ∘ e) k ≠ 0) :
    refRow s v = refRow (s ∘ e) (v ∘ e) := by
  have hw : ∀ k, wt s (e k) = wt (s ∘ e) k := fun k => by rw [wt, wt, top_range e s hs]; rfl
  have h0 : ∀ j, j ∉ Set.range e → wt s j = 0 := fun j hj => by
    rw [wt, hs j hj, EReal.bot_sub, Ideal.exp_bot]
  have hsum : ∑ j, wt s j = ∑ k, wt (s ∘ e) k := by
    rw [sum_range e _ h0]; exact Finset.sum_congr rfl fun k _ => hw k
  unfold refRow
  rw [hsum, sum_range e _ fun j hj => by rw [h0 j hj, Ideal.zero_div hne, mul_zero]]
  refine Finset.sum_congr rfl fun k _ => ?_
  rw [hw]; rfl

/-- So the kernel's row over the keys a query sees is the reference's row over all keys, the others' scores -∞. -/
theorem kerRow_eq_refRow_range [Nonempty κ] (e : κ ↪ ι) (s v : ι → EReal) (hs : ∀ j, j ∉ Set.range e → s j = ⊥)
    (hr : ∀ k, ∃ r : ℝ, s (e k) = r) : kerRow (s ∘ e) (v ∘ e) = refRow s v := by
  rw [kerRow_eq_refRow (s := s ∘ e) hr]
  refine (refRow_range e s v hs ?_).symm
  obtain ⟨w, hw, hw'⟩ := wt_real (s := s ∘ e) hr
  rw [Finset.sum_congr rfl fun k _ => hw' k, coe_sum]
  exact_mod_cast (Finset.sum_pos (fun j _ => hw j) Finset.univ_nonempty).ne'

end Row

/-- A finite sum of products of reals is real. -/
theorem sum_mul_real {ι : Type} [Fintype ι] {a b : ι → EReal} (ha : ∀ k, ∃ r : ℝ, a k = r) (hb : ∀ k, ∃ r : ℝ, b k = r) :
    ∃ r : ℝ, ∑ k, a k * b k = r := by
  choose x hx using ha
  choose y hy using hb
  exact ⟨∑ k, x k * y k, by rw [← coe_sum]; exact Finset.sum_congr rfl fun k _ => by rw [hx, hy, EReal.coe_mul]⟩

end Cert.Value

end
-- ==== Proof.Value.Block.lean ====
/-
  What the kernel's blocks hold over the extended reals.
-/
module

public import proofs.«01_k».proof.Proof.KernelIdeal.Values
public import proofs.«01_k».proof.Proof.Value.Row
public import Idealize.ShloMosaic.Lib.Pointwise

@[expose] public section

noncomputable section

namespace Cert.Value

open Idealize.ShloMosaic
open Cert.KernelIdeal Cert.KernelIdeal.Gen Cert.KernelIdeal.Run
open scoped BigOperators

/-- The scale of the scores, one eighth. -/
abbrev scale : EReal := Ideal.ofBits .f32 0x3E000000#32

/-- The pattern of -∞ is -∞. -/
theorem ofBits_neg_inf : Ideal.ofBits .f32 0xFF800000#32 = ⊥ := by simp [Ideal.ofBits, Ideal.ieee]

/-- A matrix read at two numbers: its entry there, zero outside. -/
def rd {a b : ℕ} (f : (⟨2, ![a, b]⟩ : Shape).Idx → EReal) (r c : ℕ) : EReal :=
  if h : r < a ∧ c < b then f (ix2 ⟨r, h.1⟩ ⟨c, h.2⟩) else 0

theorem eq_rd {a b : ℕ} (f : (⟨2, ![a, b]⟩ : Shape).Idx → EReal) (r : Fin a) (c : Fin b) : f (ix2 r c) = rd f r.val c.val := by
  rw [rd, dif_pos ⟨r.isLt, c.isLt⟩]

/-- The score of key `j` for query `i` of batch `b` in local head `n`. -/
def score (Q K : ℕ → ℕ → EReal) (b n i j : ℕ) : EReal :=
  (∑ t : Fin 64, Q (128 * b + i) (64 * n + t.val) * K (128 * b + j) (64 * n + t.val)) * scale

/-- Entry `(i, d)` of half `h` of the context of batch `b` and local head `n`. -/
def half (Q K V : ℕ → ℕ → EReal) (b : ℕ) (h : ℕ) (n i d : ℕ) : EReal :=
  kerRow (fun j : Fin (64 * (h + 1)) => score Q K b n (64 * h + i) j.val) fun j => V (128 * b + j.val) (64 * n + d)

set_option maxRecDepth 16384 in
/-- The blocks of batch 0 hold the two halves of the context of batch 0, head by head. -/
theorem blk0_apply (I : Ins Ideal) (h : Fin 2) (n : Fin 4) (i d : Fin 64) :
    I.blk0 h n (ix2 i d) = half (rd I.q) (rd I.kk) (rd I.vv) 0 h.val n.val i.val d.val := by
  match h, n with
  | 0, 0 | 0, 1 | 0, 2 | 0, 3 | 1, 0 | 1, 1 | 1, 2 | 1, 3 =>
  unfold Ins.blk0
  pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, Ins.z64]
  simp only [half, kerRow, wt, top, score, scale, ofBits_neg_inf, eq_rd I.q, eq_rd I.kk, eq_rd I.vv, Fin.val_zero, Fin.val_one,
    Nat.zero_add, Nat.mul_zero, Nat.mul_one, ← Nat.add_assoc, Nat.reduceMul, Nat.reduceAdd]
  try rfl

set_option maxRecDepth 16384 in
/-- The blocks of batch 1 hold the two halves of the context of batch 1, head by head. -/
theorem blk1_apply (I : Ins Ideal) (h : Fin 2) (n : Fin 4) (i d : Fin 64) :
    I.blk1 h n (ix2 i d) = half (rd I.q) (rd I.kk) (rd I.vv) 1 h.val n.val i.val d.val := by
  match h, n with
  | 0, 0 | 0, 1 | 0, 2 | 0, 3 | 1, 0 | 1, 1 | 1, 2 | 1, 3 =>
  unfold Ins.blk1
  pointwise [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, Ins.z64]
  simp only [half, kerRow, wt, top, score, scale, ofBits_neg_inf, eq_rd I.q, eq_rd I.kk, eq_rd I.vv, Fin.val_zero, Fin.val_one,
    Nat.zero_add, Nat.mul_zero, Nat.mul_one, ← Nat.add_assoc, Nat.reduceMul, Nat.reduceAdd]
  try rfl

end Cert.Value

end
-- ==== Proof.Value.Part.lean ====
/-
  What one device's part of the result holds over the extended reals, and the sum of the four parts.
-/
module

public import proofs.«01_k».proof.Proof.Value.Block

@[expose] public section

noncomputable section

namespace Cert.Value

open Idealize.ShloMosaic
open Cert.KernelIdeal Cert.KernelIdeal.Gen Cert.KernelIdeal.Run
open scoped BigOperators

/-- Entry `(r, x)` of the context of batch `b`: row `r` is a query, column `x` a head and a place in it. -/
def ctx (Q K V : ℕ → ℕ → EReal) (b r x : ℕ) : EReal := half Q K V b (r / 64) (x / 64) (r % 64) (x % 64)

/-- Entry `(r, e)` of a device's part of the result for batch `b`. -/
def part (Q K V O : ℕ → ℕ → EReal) (b r e : ℕ) : EReal := ∑ x : Fin 256, ctx Q K V b r x.val * O x.val e

theorem ctx0_apply (I : Ins Ideal) (r : Fin 128) (x : Fin 256) :
    I.ctx0 (ix2 r x) = ctx (rd I.q) (rd I.kk) (rd I.vv) 0 r.val x.val :=
  blk0_apply I ⟨r.val / 64, by omega⟩ ⟨x.val / 64, by omega⟩ ⟨r.val % 64, by omega⟩ ⟨x.val % 64, by omega⟩

theorem ctx1_apply (I : Ins Ideal) (r : Fin 128) (x : Fin 256) :
    I.ctx1 (ix2 r x) = ctx (rd I.q) (rd I.kk) (rd I.vv) 1 r.val x.val :=
  blk1_apply I ⟨r.val / 64, by omega⟩ ⟨x.val / 64, by omega⟩ ⟨r.val % 64, by omega⟩ ⟨x.val % 64, by omega⟩

/-- A device's part of the result, entry by entry. -/
abbrev partOf (I : Ins Ideal) : ℕ → ℕ → ℕ → EReal := part (rd I.q) (rd I.kk) (rd I.vv) (rd I.oo)

set_option maxRecDepth 16384 in
theorem own_apply (I : Ins Ideal) (b : Fin 2) (r : Fin 128) (e : Fin 512) : I.own b (ix2 r e) = partOf I b.val r.val e.val := by
  match b with
  | 0 | 1 =>
    unfold Ins.own
    pointwise [k0_pay30, k0_pay55]
    simp only [ctx0_apply, ctx1_apply, eq_rd I.oo]
    rfl

set_option maxRecDepth 16384 in
theorem ownSent_apply (I : Ins Ideal) (b : Fin 2) (r : Fin 128) (e : Fin 512) :
    I.ownSent b (ix3 0 r e) = partOf I b.val r.val e.val := by
  match b with
  | 0 | 1 =>
    unfold Ins.ownSent
    pointwise [k0_pay30, k0_pay31, k0_pay55, k0_pay56]
    simp only [ctx0_apply, ctx1_apply, eq_rd I.oo]
    rfl

section
variable (I : Dev nD → Ins Ideal) (c : Dev nD) (b : Fin 2) (r : Fin 128) (e : Fin 512)

set_option maxRecDepth 16384 in
theorem pair_apply : pair I c b (ix2 r e) = partOf (I c) b.val r.val e.val + partOf (I (p1 c)) b.val r.val e.val := by
  match b with
  | 0 | 1 =>
    unfold pair
    pointwise [k0_pay57, k0_pay59, k0_pay60, k0_pay61]
    simp only [own_apply, ownSent_apply]
    rfl

set_option maxRecDepth 16384 in
theorem pairSent_apply :
    pairSent I c b (ix3 0 r e) = partOf (I c) b.val r.val e.val + partOf (I (p1 c)) b.val r.val e.val := by
  match b with
  | 0 | 1 =>
    unfold pairSent
    pointwise [k0_pay57, k0_pay58, k0_pay59, k0_pay60, k0_pay61, k0_pay62]
    simp only [own_apply, ownSent_apply]
    rfl

set_option maxRecDepth 16384 in
theorem fin_apply : fin I c b (ix2 r e) = partOf (I c) b.val r.val e.val + partOf (I (p1 c)) b.val r.val e.val
    + (partOf (I (p2 c)) b.val r.val e.val + partOf (I (p1 (p2 c))) b.val r.val e.val) := by
  match b with
  | 0 | 1 =>
    unfold fin
    pointwise [k0_pay63, k0_pay1]
    simp only [pair_apply, pairSent_apply]
    rfl

/-- Every device ends with the sum of the four parts. -/
theorem fin_sum : fin I c b (ix2 r e) = ∑ d : Dev nD, partOf (I d) b.val r.val e.val := by
  rw [fin_apply]
  generalize hf : (fun d : Dev nD => partOf (I d) b.val r.val e.val) = f
  have h : ∀ d, partOf (I d) b.val r.val e.val = f d := fun d => by rw [← hf]
  simp only [h]
  rw [show (∑ d : Dev nD, f d) = ∑ d : Fin 4, f d from rfl, Fin.sum_univ_four]
  match c with
  | 0 => show f 0 + f 1 + (f 3 + f 2) = _; abel
  | 1 => show f 1 + f 0 + (f 2 + f 3) = _; abel
  | 2 => show f 2 + f 3 + (f 1 + f 0) = _; abel
  | 3 => show f 3 + f 2 + (f 0 + f 1) = _; abel

/-- So the array a device's kernel leaves holds, at row `128 b + r`, the sum of the four parts. -/
theorem result_apply (R : Fin 256) : result I c (ix2 R e)
    = ∑ d : Dev nD, partOf (I d) (R.val / 128) (R.val % 128) e.val :=
  fin_sum I c ⟨R.val / 128, by omega⟩ ⟨R.val % 128, by omega⟩ e
end

end Cert.Value

end
-- ==== Proof.Value.Reference.lean ====
/-
  The reference over the extended reals, stage by stage, each stage read at an index: the queries, the scores, the mask by
  blocks of 64 positions, the weights, and the attention of one query.
-/
module

public import proofs.«01_k».proof.Proof.Gen.ReferenceIdeal.Run
public import proofs.«01_k».proof.Proof.Value.Row
public import proofs.«01_k».proof.Proof.Value.Block
public import Idealize.ShloMosaic.Lib.Pointwise
public import Idealize.ShloMosaic.Lib.Routing.OpsOrder

@[expose] public section

set_option maxRecDepth 16384

noncomputable section

namespace Cert.Value.Reference

open Idealize.ShloMosaic Idealize.ShloMosaic.TcCoe
open Cert.ReferenceIdeal Cert.ReferenceIdeal.Gen
open scoped BigOperators

/-- The block of 64 positions a position lies in. -/
def blockNo : IVec S128 32 :=
  let n : IVec S_ 32 := id (constantI S_ 32 64#32)
  let at128 := fun y : IVec S_ 32 => broadcastInDim S128 ![] bcast_S_S128 y
  let pos : IVec S128 32 := iotaInDim S128 32 0
  select (andi (cmpi .ne (signi pos) (at128 (signi n))) (cmpi .ne (Host.remsi pos (at128 n)) (at128 (constantI S_ 32 0#32))))
    (subi (Host.divsi pos (at128 n)) (at128 (constantI S_ 32 1#32))) (Host.divsi pos (at128 n))

/-- Which keys (second axis) a query (first axis) sees. -/
def mask : IVec S128x128 1 :=
  cmpi .sle (broadcastInDim S128x128 ![0, 1] bcast_S1x128_S128x128_0_1 (broadcastInDim S1x128 ![1] bcast_S128_S1x128_1 blockNo))
    (broadcastInDim S128x128 ![0, 1] bcast_S128x1_S128x128_0_1 (broadcastInDim S128x1 ![0] bcast_S128_S128x1_0 blockNo))

/-- Whether a query sees any key. -/
def sees : IVec S128 1 := Host.reduce IntOp.ori mask (constantI S_ 1 0#1) reducesTo_S128x128_S128_d1 h_S_

section
variable (x : FVec Ideal S2x128x512 .f32) (w : FVec Ideal S512x1024 .f32) (k v : FVec Ideal S2x128x16x64 .f32) (o : FVec Ideal S1024x512 .f32)

/-- The queries of all heads. -/
def queries : FVec Ideal S2x128x16x64 .f32 :=
  shapeCast _ (Host.dotGeneral dot_S2x128x512_S512x1024_S2x128x1024_2_0_01_1_n_n none x w) shapeCasts_S2x128x1024_S2x128x16x64

/-- The scaled scores. -/
def scores : FVec Ideal S2x16x128x128 .f32 :=
  mulf (Host.dotGeneral dot_S2x128x16x64_S2x128x16x64_S2x16x128x128_3_3_1_1_02_02 none (queries x w) k)
    (broadcastInDim S2x16x128x128 ![] bcast_S_S2x16x128x128 (constant S_ .f32 0x3E000000#32))

/-- The scores, those of the keys a query does not see at -∞. -/
def masked : FVec Ideal S2x16x128x128 .f32 :=
  select (broadcastInDim S2x16x128x128 ![0, 1, 2, 3] bcast_S1x1x128x128_S2x16x128x128_0_1_2_3
      (broadcastInDim S1x1x128x128 ![2, 3] bcast_S128x128_S1x1x128x128_2_3 mask)) (scores x w k)
    (broadcastInDim S2x16x128x128 ![] bcast_S_S2x16x128x128 (id (constant S_ .f32 0xFF800000#32)))

/-- Their exponentials, each row's greatest taken off. -/
def weights : FVec Ideal S2x16x128x128 .f32 :=
  Host.exp (subf (masked x w k) (broadcastInDim S2x16x128x128 ![0, 1, 2, 3] bcast_S2x16x128x1_S2x16x128x128_0_1_2_3
    (broadcastInDim S2x16x128x1 ![0, 1, 2] bcast_S2x16x128_S2x16x128x1_0_1_2
      (Host.reduce FloatOps.maximumf (masked x w k) (constant S_ .f32 0xFF800000#32) reducesTo_S2x16x128x128_S2x16x128_d3 h_S_))))

/-- The sum of a row's weights (one in a row that sees no key). -/
def sums : FVec Ideal S2x16x128x1 .f32 :=
  select (broadcastInDim S2x16x128x1 ![0, 1, 2, 3] bcast_S1x1x128x1_S2x16x128x1_0_1_2_3
      (broadcastInDim S1x1x128x1 ![2] bcast_S128_S1x1x128x1_2 sees))
    (broadcastInDim S2x16x128x1 ![0, 1, 2] bcast_S2x16x128_S2x16x128x1_0_1_2
      (Host.reduceAdd (weights x w k) (constant S_ .f32 0x00000000#32) reducesTo_S2x16x128x128_S2x16x128_d3 h_S_))
    (broadcastInDim S2x16x128x1 ![] bcast_S_S2x16x128x1 (id (constant S_ .f32 0x3F800000#32)))

/-- The normalised weights (zero in a row that sees no key). -/
def probs : FVec Ideal S2x16x128x128 .f32 :=
  select (broadcastInDim S2x16x128x128 ![0, 1, 2, 3] bcast_S1x1x128x1_S2x16x128x128_0_1_2_3
      (broadcastInDim S1x1x128x1 ![2] bcast_S128_S1x1x128x1_2 sees))
    (Host.divf (weights x w k) (broadcastInDim S2x16x128x128 ![0, 1, 2, 3] bcast_S2x16x128x1_S2x16x128x128_0_1_2_3 (sums x w k)))
    (broadcastInDim S2x16x128x128 ![] bcast_S_S2x16x128x128 (id (constant S_ .f32 0x00000000#32)))

/-- The attention of every head. -/
def heads : FVec Ideal S2x16x64x128 .f32 :=
  Host.dotGeneral dot_S2x128x16x64_S2x16x128x128_S2x16x64x128_1_3_3_2_02_01 none v (probs x w k)

/-- The result. -/
def out : FVec Ideal S2x128x512 .f32 :=
  Host.dotGeneral dot_S2x128x1024_S1024x512_S2x128x512_2_0_01_1_n_n none
    (shapeCast _ (transpose S2x128x16x64 [0, 3, 1, 2] (heads x w k v) transposes_S2x16x64x128_S2x128x16x64_0_3_1_2)
      shapeCasts_S2x128x16x64_S2x128x1024) o

end

/-- The reference's result is these stages, one after the other. -/
theorem res_eq_out (m : (ℓ : Loc nD τ sig) → Buf (Elt Ideal) ℓ) (c : Dev nD) :
    Cert.ReferenceIdeal.Value.res_out0 m c = out (m ((c : Thread nD τ).loc main_arg0)) (m ((c : Thread nD τ).loc main_arg1))
      (m ((c : Thread nD τ).loc main_arg2)) (m ((c : Thread nD τ).loc main_arg3)) (m ((c : Thread nD τ).loc main_arg4)) := by
  unfold Cert.ReferenceIdeal.Value.res_out0 Cert.ReferenceIdeal.Value.res_main_v33
  rfl

theorem blockNo_apply (r : Fin 128) : blockNo (ix1 r) = BitVec.ofNat 32 (r.val / 64) := by
  pointwise [blockNo]
  revert r
  decide +kernel

theorem mask_apply (i j : Fin 128) : mask (ix2 i j) = if j.val / 64 ≤ i.val / 64 then 1#1 else 0#1 := by
  pointwise [mask]
  rw [blockNo_apply, blockNo_apply]
  have hi : i.val / 64 = 0 ∨ i.val / 64 = 1 := by omega
  have hj : j.val / 64 = 0 ∨ j.val / 64 = 1 := by omega
  rcases hi with hi | hi <;> rcases hj with hj | hj <;> rw [hi, hj] <;> rfl

theorem sees_apply (i : Fin 128) : sees (ix1 i) = 1#1 := by
  pointwise [sees]
  rw [Routing.fold_ori]
  refine ⟨i, Finset.mem_univ i, ?_⟩
  rw [mask_apply, if_pos le_rfl]

section
variable (x : FVec Ideal S2x128x512 .f32) (w : FVec Ideal S512x1024 .f32) (k v : FVec Ideal S2x128x16x64 .f32) (o : FVec Ideal S1024x512 .f32)

theorem queries_apply (b : Fin 2) (i : Fin 128) (h : Fin 16) (t : Fin 64) :
    queries x w (ix4 b i h t) = ∑ l : Fin 512, x (ix3 b i l) * w (ix2 l ⟨h.val * 64 + t.val, by omega⟩) := by
  pointwise [queries]

theorem scores_apply (b : Fin 2) (h : Fin 16) (i j : Fin 128) :
    scores x w k (ix4 b h i j) = (∑ t : Fin 64, queries x w (ix4 b i h t) * k (ix4 b j h t)) * Ideal.ofBits .f32 0x3E000000#32 := by
  pointwise [scores]

theorem masked_apply (b : Fin 2) (h : Fin 16) (i j : Fin 128) :
    masked x w k (ix4 b h i j) = if j.val / 64 ≤ i.val / 64 then scores x w k (ix4 b h i j) else ⊥ := by
  pointwise [masked]
  rw [mask_apply]
  split_ifs
  · rfl
  · show Ideal.ofBits .f32 0xFF800000#32 = ⊥
    exact ofBits_neg_inf

theorem weights_apply (b : Fin 2) (h : Fin 16) (i j : Fin 128) :
    weights x w k (ix4 b h i j) = wt (fun j : Fin 128 => masked x w k (ix4 b h i j)) j := by
  pointwise [weights]
  rw [ofBits_neg_inf]
  rfl

theorem heads_apply (b : Fin 2) (h : Fin 16) (d : Fin 64) (i : Fin 128) :
    heads x w k v (ix4 b h d i) = refRow (fun j : Fin 128 => masked x w k (ix4 b h i j)) fun j => v (ix4 b j h d) := by
  pointwise [heads, probs, sums]
  simp only [sees_apply]
  simp only [weights_apply]
  rfl

theorem out_apply (b : Fin 2) (i : Fin 128) (e : Fin 512) :
    out x w k v o (ix3 b i e) = ∑ n : Fin 1024, heads x w k v (ix4 b ⟨n.val / 64, by omega⟩ ⟨n.val % 64, by omega⟩ i) * o (ix2 n e) := by
  pointwise [out]

end

end Cert.Value.Reference

end
-- ==== Proof.Value.Equal.lean ====
/-
  The kernel and the reference compute one array: the four devices' parts, each read by its own heads, are the four
  quarters of the reference's sum over all heads and places.
-/
module

public import proofs.«01_k».proof.Proof.Value.Part
public import proofs.«01_k».proof.Proof.Value.Reference

@[expose] public section

noncomputable section

namespace Cert.Value

open Idealize.ShloMosaic
open Cert.KernelIdeal Cert.KernelIdeal.Gen Cert.KernelIdeal.Run
open scoped BigOperators

/-- The five whole arrays. -/
structure Whole where
  x : (⟨3, ![2, 128, 512]⟩ : Shape).Idx → EReal
  w : (⟨2, ![512, 1024]⟩ : Shape).Idx → EReal
  k : (⟨4, ![2, 128, 16, 64]⟩ : Shape).Idx → EReal
  v : (⟨4, ![2, 128, 16, 64]⟩ : Shape).Idx → EReal
  o : (⟨2, ![1024, 512]⟩ : Shape).Idx → EReal

/-- Head `n` of device `d`, among all heads. -/
def hd (d : Dev nD) (n : Fin 4) : Fin 16 := ⟨4 * d.val + n.val, by have : d.val < 4 := d.isLt; omega⟩

/-- Device `d` reads all tokens, its quarter of the two weight matrices, and its four heads of the keys and values. -/
structure Reads (A : Whole) (d : Dev nD) (I : Ins Ideal) : Prop where
  x : ∀ (R : Fin 256) (l : Fin 512), I.x (ix2 R l) = A.x (ix3 ⟨R.val / 128, by omega⟩ ⟨R.val % 128, by omega⟩ l)
  w : ∀ (l : Fin 512) (y : Fin 256), I.w (ix2 l y) = A.w (ix2 l ⟨d.val * 256 + y.val, by have : d.val < 4 := d.isLt; omega⟩)
  k : ∀ R y : Fin 256, I.k (ix2 R y) = A.k (ix4 ⟨R.val / 128, by omega⟩ ⟨R.val % 128, by omega⟩
    ⟨4 * d.val + y.val / 64, by have : d.val < 4 := d.isLt; omega⟩ ⟨y.val % 64, by omega⟩)
  v : ∀ R y : Fin 256, I.v (ix2 R y) = A.v (ix4 ⟨R.val / 128, by omega⟩ ⟨R.val % 128, by omega⟩
    ⟨4 * d.val + y.val / 64, by have : d.val < 4 := d.isLt; omega⟩ ⟨y.val % 64, by omega⟩)
  o : ∀ (y : Fin 256) (e : Fin 512), I.o (ix2 y e) = A.o (ix2 ⟨d.val * 256 + y.val, by have : d.val < 4 := d.isLt; omega⟩ e)

/-- Every entry is a real number. -/
def AllReal {ι : Type} (f : ι → EReal) : Prop := ∀ i, ∃ r : ℝ, f i = r

theorem q_apply (I : Ins Ideal) (R y : Fin 256) : I.q (ix2 R y) = ∑ l : Fin 512, I.x (ix2 R l) * I.w (ix2 l y) := by
  pointwise [k0_pay2]

theorem kk_apply (I : Ins Ideal) (R y : Fin 256) : I.kk (ix2 R y) = I.k (ix2 R y) := by
  pointwise [k0_pay3]

theorem vv_apply (I : Ins Ideal) (R y : Fin 256) : I.vv (ix2 R y) = I.v (ix2 R y) := by
  pointwise [k0_pay4]

theorem oo_apply (I : Ins Ideal) (y : Fin 256) (e : Fin 512) : I.oo (ix2 y e) = I.o (ix2 y e) := by
  pointwise [k0_pay5]

section
variable {A : Whole} {d : Dev nD} {I : Ins Ideal} (h : Reads A d I)
include h

/-- The device's queries are its heads of the reference's. -/
theorem rd_q (b : Fin 2) (r : Fin 128) (n : Fin 4) (t : Fin 64) :
    rd I.q (128 * b.val + r.val) (64 * n.val + t.val) = Reference.queries A.x A.w (ix4 b r (hd d n) t) := by
  rw [Reference.queries_apply]
  refine (eq_rd I.q ⟨128 * b.val + r.val, by omega⟩ ⟨64 * n.val + t.val, by omega⟩).symm.trans ?_
  rw [q_apply]
  refine Finset.sum_congr rfl fun l _ => ?_
  rw [h.x, h.w]
  have hb : (128 * b.val + r.val) / 128 = b.val := by omega
  have hr : (128 * b.val + r.val) % 128 = r.val := by omega
  have hc : d.val * 256 + (64 * n.val + t.val) = (hd d n).val * 64 + t.val := by simp only [hd]; omega
  simp only [hb, hr, hc]

/-- So are its keys, -/
theorem rd_kk (b : Fin 2) (r : Fin 128) (n : Fin 4) (t : Fin 64) :
    rd I.kk (128 * b.val + r.val) (64 * n.val + t.val) = A.k (ix4 b r (hd d n) t) := by
  refine (eq_rd I.kk ⟨128 * b.val + r.val, by omega⟩ ⟨64 * n.val + t.val, by omega⟩).symm.trans ?_
  rw [kk_apply, h.k]
  have hb : (128 * b.val + r.val) / 128 = b.val := by omega
  have hr : (128 * b.val + r.val) % 128 = r.val := by omega
  have hn : (64 * n.val + t.val) / 64 = n.val := by omega
  have ht : (64 * n.val + t.val) % 64 = t.val := by omega
  simp only [hb, hr, hn, ht]
  rfl

/-- and its values. -/
theorem rd_vv (b : Fin 2) (r : Fin 128) (n : Fin 4) (t : Fin 64) :
    rd I.vv (128 * b.val + r.val) (64 * n.val + t.val) = A.v (ix4 b r (hd d n) t) := by
  refine (eq_rd I.vv ⟨128 * b.val + r.val, by omega⟩ ⟨64 * n.val + t.val, by omega⟩).symm.trans ?_
  rw [vv_apply, h.v]
  have hb : (128 * b.val + r.val) / 128 = b.val := by omega
  have hr : (128 * b.val + r.val) % 128 = r.val := by omega
  have hn : (64 * n.val + t.val) / 64 = n.val := by omega
  have ht : (64 * n.val + t.val) % 64 = t.val := by omega
  simp only [hb, hr, hn, ht]
  rfl

/-- A device's score is the reference's. -/
theorem score_eq (b : Fin 2) (n : Fin 4) (i j : Fin 128) :
    score (rd I.q) (rd I.kk) b.val n.val i.val j.val = Reference.scores A.x A.w A.k (ix4 b (hd d n) i j) := by
  rw [Reference.scores_apply, score]
  simp only [rd_q h, rd_kk h]

omit h in
/-- The reference's scores are real numbers, the tokens, the query weights and the keys being so. -/
theorem scores_real (hx : AllReal A.x) (hw : AllReal A.w) (hk : AllReal A.k) (b : Fin 2) (n : Fin 16) (i j : Fin 128) :
    ∃ r : ℝ, Reference.scores A.x A.w A.k (ix4 b n i j) = r := by
  rw [Reference.scores_apply]
  obtain ⟨s, hs⟩ := sum_mul_real (a := fun t : Fin 64 => Reference.queries A.x A.w (ix4 b i n t))
    (b := fun t => A.k (ix4 b j n t)) (fun t => by
      rw [Reference.queries_apply]
      exact sum_mul_real (fun l => hx _) fun l => hw _) fun t => hk _
  refine ⟨s * (1 / 8), ?_⟩
  rw [hs, show Ideal.ofBits .f32 0x3E000000#32 = ((1 / 8 : ℝ) : EReal) from ?_, ← EReal.coe_mul]
  simp [Ideal.ofBits, Ideal.ieee]
  rw [← EReal.coe_mul]
  norm_num

/-- A device's context is its heads of the reference's attention. -/
theorem ctx_eq (hx : AllReal A.x) (hw : AllReal A.w) (hk : AllReal A.k) (b : Fin 2) (r : Fin 128) (n : Fin 4) (t : Fin 64) :
    ctx (rd I.q) (rd I.kk) (rd I.vv) b.val r.val (64 * n.val + t.val)
      = Reference.heads A.x A.w A.k A.v (ix4 b (hd d n) t r) := by
  rw [Reference.heads_apply]
  have hn : (64 * n.val + t.val) / 64 = n.val := by omega
  have ht : (64 * n.val + t.val) % 64 = t.val := by omega
  have hr : 64 * (r.val / 64) + r.val % 64 = r.val := by omega
  have hle : 64 * (r.val / 64 + 1) ≤ 128 := by omega
  simp only [ctx, half, hn, ht, hr]
  haveI : Nonempty (Fin (64 * (r.val / 64 + 1))) := ⟨⟨0, by omega⟩⟩
  refine Eq.trans ?_ (kerRow_eq_refRow_range (Fin.castLEEmb hle) _ _ ?_ ?_)
  · congr 1
    · funext j
      have hj : (Fin.castLEEmb hle j).val = j.val := rfl
      rw [Function.comp_apply, Reference.masked_apply, if_pos (by rw [hj]; omega), ← score_eq h, hj]
    · funext j
      exact rd_vv h b (Fin.castLEEmb hle j) n t
  · intro j hj
    rw [Reference.masked_apply, if_neg]
    intro hc
    exact hj ⟨⟨j.val, by omega⟩, rfl⟩
  · intro j
    have hj : (Fin.castLEEmb hle j).val = j.val := rfl
    rw [Reference.masked_apply, if_pos (by rw [hj]; omega)]
    exact scores_real hx hw hk _ _ _ _

end

/-- A sum over all heads and places is the sum over the devices of the sums over their own. -/
theorem sum_devices (f : Fin 1024 → EReal) :
    ∑ n, f n = ∑ d : Dev nD, ∑ y : Fin 256, f ⟨d.val * 256 + y.val, by have : d.val < 4 := d.isLt; omega⟩ := by
  rw [show (∑ d : Dev nD, ∑ y : Fin 256, f ⟨d.val * 256 + y.val, by have : d.val < 4 := d.isLt; omega⟩)
    = ∑ d : Fin 4, ∑ y : Fin 256, f ⟨d.val * 256 + y.val, by omega⟩ from rfl,
    ← Fintype.sum_prod_type' (fun (d : Fin 4) (y : Fin 256) => f ⟨d.val * 256 + y.val, by omega⟩)]
  refine (Fintype.sum_equiv (finProdFinEquiv (m := 4) (n := 256)) _ _ fun p => ?_).symm
  refine congrArg f (Fin.ext ?_)
  simp only [finProdFinEquiv_apply_val]
  omega

/-- The four devices' parts make the reference's result. -/
theorem parts_eq_out {A : Whole} {I : Dev nD → Ins Ideal} (h : ∀ d, Reads A d (I d)) (hx : AllReal A.x) (hw : AllReal A.w)
    (hk : AllReal A.k) (b : Fin 2) (r : Fin 128) (e : Fin 512) :
    ∑ d : Dev nD, partOf (I d) b.val r.val e.val = Reference.out A.x A.w A.k A.v A.o (ix3 b r e) := by
  rw [Reference.out_apply, sum_devices]
  refine Finset.sum_congr rfl fun d _ => Finset.sum_congr rfl fun y _ => ?_
  have hd4 : d.val < 4 := d.isLt
  rw [← eq_rd, oo_apply, (h d).o]
  congr 1
  have hy : y.val = 64 * (y.val / 64) + y.val % 64 := by omega
  refine (congrArg (ctx (rd (I d).q) (rd (I d).kk) (rd (I d).vv) b.val r.val) hy).trans ?_
  refine (ctx_eq (h d) hx hw hk b r ⟨y.val / 64, by omega⟩ ⟨y.val % 64, by omega⟩).trans (congrArg _ ?_)
  have h1 : hd d ⟨y.val / 64, by omega⟩ = ⟨(d.val * 256 + y.val) / 64, by omega⟩ := by apply Fin.ext; simp only [hd]; omega
  have h2 : (⟨y.val % 64, by omega⟩ : Fin 64) = ⟨(d.val * 256 + y.val) % 64, by omega⟩ := by apply Fin.ext; simp only []; omega
  rw [h1, h2]

end Cert.Value

end
-- ==== Proof.Value.Host.lean ====
/-
  The arrays a device's kernel is handed, in terms of the program's arguments.
-/
module

public import proofs.«01_k».proof.Proof.KernelIdeal.Region
public import proofs.«01_k».proof.Proof.Value.Part
public import Idealize.ShloMosaic.Lib.StableHlo.ReadAt
public import Idealize.ShloMosaic.Lib.DynamicIndex

@[expose] public section

noncomputable section

namespace Cert.Value

open Idealize.ShloMosaic Idealize.ShloMosaic.TcCoe
open Cert.KernelIdeal Cert.KernelIdeal.Gen Cert.KernelIdeal.Run
open scoped BigOperators

variable (m : (ℓ : Loc nD τ sig) → Buf (Elt Ideal) ℓ) (c : Dev nD)

theorem ins_x (R : Fin 256) (k : Fin 512) :
    (ins (V1 m) c).x (ix2 R k) = (m ((c : Thread nD τ).loc main_arg0) : FVec Ideal S2x128x512 .f32) (ix3 ⟨R.val / 128, by omega⟩ ⟨R.val % 128, by omega⟩ k) := by
  show V1 m c (Proc.devRef .tc main_v15) (ix2 R k) = _
  unfold V1
  after_reads_at

/-- Two rank-4 indices with equal coordinates are equal. -/
theorem ix4_congr {n0 n1 n2 n3 : ℕ} {a a' : Fin n0} {b b' : Fin n1} {d d' : Fin n2} {e e' : Fin n3} (ha : a.val = a'.val) (hb : b.val = b'.val)
    (hd : d.val = d'.val) (he : e.val = e'.val) : ix4 a b d e = ix4 a' b' d' e' := by
  rw [Fin.ext ha, Fin.ext hb, Fin.ext hd, Fin.ext he]

theorem V0_at (r : Ref sig .tc) : V0 m c (Proc.devRef .tc r) = m ((c : Thread nD τ).loc r) := rfl

theorem start_c_4 (i : S_.Idx) : (StableHlo.upto (hostOps0 c) (V0 m c) 16 (Proc.tc.devRef main_c_4) : IVec S_ 32) i = 0#32 := by
  unfold StableHlo.upto
  simp only [List.take]
  after_reads_at

theorem start_c_5 (i : S_.Idx) : (StableHlo.upto (hostOps0 c) (V0 m c) 16 (Proc.tc.devRef main_c_5) : IVec S_ 32) i = 0#32 := by
  unfold StableHlo.upto
  simp only [List.take]
  after_reads_at

theorem start_c_6 (i : S_.Idx) : (StableHlo.upto (hostOps0 c) (V0 m c) 16 (Proc.tc.devRef main_c_6) : IVec S_ 32) i = 0#32 := by
  unfold StableHlo.upto
  simp only [List.take]
  after_reads_at

/-- The heads a device's slice starts at: four times its number. -/
theorem start_v8 (i : S_.Idx) : ((StableHlo.upto (hostOps0 c) (V0 m c) 16 (Proc.tc.devRef main_v8) : IVec S_ 32) i).toInt = 4 * c.val := by
  unfold StableHlo.upto
  simp only [List.take]
  after_reads_at
  obtain rfl : i = ix0 := funext fun a => a.elim0
  revert c
  clear * -
  decide +kernel

theorem start_c_10 (i : S_.Idx) : (StableHlo.upto (hostOps0 c) (V0 m c) 27 (Proc.tc.devRef main_c_10) : IVec S_ 32) i = 0#32 := by
  unfold StableHlo.upto
  simp only [List.take]
  after_reads_at

theorem start_c_11 (i : S_.Idx) : (StableHlo.upto (hostOps0 c) (V0 m c) 27 (Proc.tc.devRef main_c_11) : IVec S_ 32) i = 0#32 := by
  unfold StableHlo.upto
  simp only [List.take]
  after_reads_at

theorem start_c_12 (i : S_.Idx) : (StableHlo.upto (hostOps0 c) (V0 m c) 27 (Proc.tc.devRef main_c_12) : IVec S_ 32) i = 0#32 := by
  unfold StableHlo.upto
  simp only [List.take]
  after_reads_at

/-- The heads a device's slice starts at: four times its number. -/
theorem start_v13 (i : S_.Idx) : ((StableHlo.upto (hostOps0 c) (V0 m c) 27 (Proc.tc.devRef main_v13) : IVec S_ 32) i).toInt = 4 * c.val := by
  unfold StableHlo.upto
  simp only [List.take]
  after_reads_at
  obtain rfl : i = ix0 := funext fun a => a.elim0
  revert c
  clear * -
  decide +kernel

theorem ins_k (R y : Fin 256) :
    (ins (V1 m) c).k (ix2 R y) = (m ((c : Thread nD τ).loc main_arg2) : FVec Ideal S2x128x16x64 .f32)
      (ix4 ⟨R.val / 128, by omega⟩ ⟨R.val % 128, by omega⟩ ⟨4 * c.val + y.val / 64, by have : c.val < 4 := c.isLt; omega⟩ ⟨y.val % 64, by omega⟩) := by
  show V1 m c (Proc.devRef .tc main_v16) (ix2 R y) = _
  unfold V1
  after_reads_at
  rw [V0_at]
  have hc : c.val < 4 := c.isLt
  congr 1
  refine ix4_congr ?_ ?_ ?_ ?_
  · refine Eq.trans (congrArg (· + _) (Host.clampedStart_of_le _ _ _ 0 ?_ ?_)) (Nat.zero_add _)
    · exact congrArg BitVec.toInt (start_c_4 m c _)
    · decide
  · refine Eq.trans (congrArg (· + _) (Host.clampedStart_of_le _ _ _ 0 ?_ ?_)) (Nat.zero_add _)
    · exact congrArg BitVec.toInt (start_c_5 m c _)
    · decide
  · refine congrArg (· + _) (Host.clampedStart_of_le _ _ _ (4 * c.val) ?_ ?_)
    · exact start_v8 m c _
    · show 4 * c.val + 4 ≤ 16; omega
  · refine Eq.trans (congrArg (· + _) (Host.clampedStart_of_le _ _ _ 0 ?_ ?_)) (Nat.zero_add _)
    · exact congrArg BitVec.toInt (start_c_6 m c _)
    · decide

theorem ins_v (R y : Fin 256) :
    (ins (V1 m) c).v (ix2 R y) = (m ((c : Thread nD τ).loc main_arg3) : FVec Ideal S2x128x16x64 .f32)
      (ix4 ⟨R.val / 128, by omega⟩ ⟨R.val % 128, by omega⟩ ⟨4 * c.val + y.val / 64, by have : c.val < 4 := c.isLt; omega⟩ ⟨y.val % 64, by omega⟩) := by
  show V1 m c (Proc.devRef .tc main_v17) (ix2 R y) = _
  unfold V1
  after_reads_at
  rw [V0_at]
  have hc : c.val < 4 := c.isLt
  congr 1
  refine ix4_congr ?_ ?_ ?_ ?_
  · refine Eq.trans (congrArg (· + _) (Host.clampedStart_of_le _ _ _ 0 ?_ ?_)) (Nat.zero_add _)
    · exact congrArg BitVec.toInt (start_c_10 m c _)
    · decide
  · refine Eq.trans (congrArg (· + _) (Host.clampedStart_of_le _ _ _ 0 ?_ ?_)) (Nat.zero_add _)
    · exact congrArg BitVec.toInt (start_c_11 m c _)
    · decide
  · refine congrArg (· + _) (Host.clampedStart_of_le _ _ _ (4 * c.val) ?_ ?_)
    · exact start_v13 m c _
    · show 4 * c.val + 4 ≤ 16; omega
  · refine Eq.trans (congrArg (· + _) (Host.clampedStart_of_le _ _ _ 0 ?_ ?_)) (Nat.zero_add _)
    · exact congrArg BitVec.toInt (start_c_12 m c _)
    · decide

end Cert.Value

end
-- ==== Proof.Value.Final.lean ====
/-
  What the kernel returns is what the reference returns, from memories that hold the same arrays, each device its part.
-/
module

public import proofs.«01_k».proof.Proof.Value.Equal
public import proofs.«01_k».proof.Proof.Value.Host
public import proofs.«01_k».proof.Proof.KernelIdeal.Launch
public import proofs.«01_k».proof.Proof.Gen.Pre_scores_finite_KernelIdeal
public import Idealize.ShloMosaic.Lib.LayoutAt

@[expose] public section

set_option maxRecDepth 16384

noncomputable section

namespace Cert.Value

open Idealize.ShloMosaic Idealize.ShloMosaic.TcCoe
open Cert.KernelIdeal Cert.KernelIdeal.Gen Cert.KernelIdeal.Run
open scoped BigOperators

/-- A number whose absolute value is below +∞ is real. -/
theorem real_of_abs (a : EReal) (h : FloatOps.cmpf (F := Ideal) (φ := .f32) .olt (FloatOps.absf (F := Ideal) (φ := .f32) a)
    (Ideal.ofBits .f32 0x7F800000#32) = 1#1) : ∃ r : ℝ, a = r := by
  rw [show Ideal.ofBits .f32 0x7F800000#32 = ⊤ by simp [Ideal.ofBits, Ideal.ieee], Ideal.absf_def] at h
  induction a with
  | bot => simp [Ideal.cmpf_def, Ideal.cmp] at h
  | top => simp [Ideal.cmpf_def, Ideal.cmp] at h
  | coe r => exact ⟨r, rfl⟩

section
variable (a0 : FVec Ideal S2x128x512 .f32) (a1 : FVec Ideal S512x256 .f32) (a2 a3 : FVec Ideal S2x128x16x64 .f32) (a4 : FVec Ideal S256x512 .f32)

/-- The precondition says of one device's tokens, -/
theorem real_x (h : (Cert.Pre_scores_finite_KernelIdeal.fn a0 a1 a2 a3 a4).1 = fun _ => 1#1) : AllReal a0 := fun i =>
  real_of_abs _ (congrFun h i)

/-- of its block of the query weights, -/
theorem real_w (h : (Cert.Pre_scores_finite_KernelIdeal.fn a0 a1 a2 a3 a4).2.1 = fun _ => 1#1) : AllReal a1 := fun i =>
  real_of_abs _ (congrFun h i)

/-- and of the keys, that all are real numbers. -/
theorem real_k (h : (Cert.Pre_scores_finite_KernelIdeal.fn a0 a1 a2 a3 a4).2.2 = fun _ => 1#1) : AllReal a2 := fun i =>
  real_of_abs _ (congrFun h i)
end

/-- Entry `(l, y)` of block `d` of a matrix cut by columns. -/
theorem block_cols (W : (⟨2, ![512, 1024]⟩ : Shape).Idx → EReal) (d : Fin 4) (l : Fin 512) (y : Fin 256) :
    Layout.block ⟨2, ![512, 256]⟩ ⟨2, ![512, 1024]⟩ 1 4 d W (by decide) (ix2 l y) = W (ix2 l ⟨d.val * 256 + y.val, by omega⟩) := by
  shard_ext

/-- Entry `(y, e)` of block `d` of a matrix cut by rows. -/
theorem block_rows (O : (⟨2, ![1024, 512]⟩ : Shape).Idx → EReal) (d : Fin 4) (y : Fin 256) (e : Fin 512) :
    Layout.block ⟨2, ![256, 512]⟩ ⟨2, ![1024, 512]⟩ 0 4 d O (by decide) (ix2 y e) = O (ix2 ⟨d.val * 256 + y.val, by omega⟩ e) := by
  shard_ext

section
variable (m : (ℓ : Loc nD τ sig) → Buf (Elt Ideal) ℓ) (c : Dev nD)

/-- What a device returns, entry by entry. -/
theorem returned_apply (b : Fin 2) (r : Fin 128) (e : Fin 512) : (returned m c : FVec Ideal S2x128x512 .f32) (ix3 b r e)
    = ∑ d : Dev nD, partOf (ins (V1 m) d) b.val r.val e.val := by
  unfold returned
  pointwise []
  rw [result_apply]
  have hb : (b.val * 128 + r.val) / 128 = b.val := by omega
  have hr : (b.val * 128 + r.val) % 128 = r.val := by omega
  simp only [hb, hr]
end

/-- The arrays of the whole problem, from a memory of the reference. -/
def whole (m : (ℓ : Loc Cert.ReferenceIdeal.nD Cert.ReferenceIdeal.τ Cert.ReferenceIdeal.sig) → Buf (Elt Ideal) ℓ) : Whole where
  x := m (((0 : Dev Cert.ReferenceIdeal.nD).tc : Thread Cert.ReferenceIdeal.nD Cert.ReferenceIdeal.τ).loc Cert.ReferenceIdeal.main_arg0)
  w := m (((0 : Dev Cert.ReferenceIdeal.nD).tc : Thread Cert.ReferenceIdeal.nD Cert.ReferenceIdeal.τ).loc Cert.ReferenceIdeal.main_arg1)
  k := m (((0 : Dev Cert.ReferenceIdeal.nD).tc : Thread Cert.ReferenceIdeal.nD Cert.ReferenceIdeal.τ).loc Cert.ReferenceIdeal.main_arg2)
  v := m (((0 : Dev Cert.ReferenceIdeal.nD).tc : Thread Cert.ReferenceIdeal.nD Cert.ReferenceIdeal.τ).loc Cert.ReferenceIdeal.main_arg3)
  o := m (((0 : Dev Cert.ReferenceIdeal.nD).tc : Thread Cert.ReferenceIdeal.nD Cert.ReferenceIdeal.τ).loc Cert.ReferenceIdeal.main_arg4)

/-- Each device is launched with its part of the whole arrays. -/
structure Launched (A : Whole) (m : (ℓ : Loc nD τ sig) → Buf (Elt Ideal) ℓ) (c : Dev nD) : Prop where
  x : m ((c.tc : Thread nD τ).loc main_arg0) = A.x
  w : m ((c.tc : Thread nD τ).loc main_arg1) = Layout.block ⟨2, ![512, 256]⟩ ⟨2, ![512, 1024]⟩ 1 4 c A.w
  k : m ((c.tc : Thread nD τ).loc main_arg2) = A.k
  v : m ((c.tc : Thread nD τ).loc main_arg3) = A.v
  o : m ((c.tc : Thread nD τ).loc main_arg4) = Layout.block ⟨2, ![256, 512]⟩ ⟨2, ![1024, 512]⟩ 0 4 c A.o

variable {A : Whole} {m : (ℓ : Loc nD τ sig) → Buf (Elt Ideal) ℓ}

/-- So its kernel reads its part. -/
theorem Launched.reads {c : Dev nD} (h : Launched A m c) : Reads A c (ins (V1 m) c) where
  x R l := (ins_x m c R l).trans (congrFun h.x _)
  w l y := (congrFun ((V1_of m c main_arg1 (by decide)).trans ((V0_at m c main_arg1).trans h.w)) (ix2 l y)).trans (block_cols A.w c l y)
  k R y := (ins_k m c R y).trans (congrFun h.k _)
  v R y := (ins_v m c R y).trans (congrFun h.v _)
  o y e := (congrFun ((V1_of m c main_arg4 (by decide)).trans ((V0_at m c main_arg4).trans h.o)) (ix2 y e)).trans (block_rows A.o c y e)

/-- The blocks of a matrix cut by columns being real, so is the matrix. -/
theorem real_of_blocks (W : (⟨2, ![512, 1024]⟩ : Shape).Idx → EReal)
    (h : ∀ d : Fin 4, AllReal (Layout.block ⟨2, ![512, 256]⟩ ⟨2, ![512, 1024]⟩ 1 4 d W)) : AllReal W := fun i => by
  have hi : (i 1).val < 1024 := (i 1).isLt
  obtain ⟨r, hr⟩ := h ⟨(i 1).val / 256, by omega⟩ (ix2 (i 0) ⟨(i 1).val % 256, by omega⟩)
  refine ⟨r, Eq.trans (congrArg W ?_) hr⟩
  shard_ext

/-- Every device returns the reference's result. -/
theorem returned_eq (h : ∀ c, Launched A m c) (hx : AllReal A.x) (hw : AllReal A.w) (hk : AllReal A.k) (c : Dev nD) :
    returned m c = Reference.out A.x A.w A.k A.v A.o := by
  funext i
  have hi : i = ix3 (i 0 : Fin 2) (i 1 : Fin 128) (i 2 : Fin 512) := by
    funext a; match a with | 0 | 1 | 2 => rfl
  rw [hi]
  exact (returned_apply m c _ _ _).trans (parts_eq_out (fun d => (h d).reads) hx hw hk _ _ _)

end Cert.Value

end
-- ==== Proof.lean ====
/-
  The certificate: the frames of the kernel, of the kernel over the extended reals and of the reference, and the equality
  of the values the last two compute.
-/
module

public import proofs.«01_k».proof.Defs
public import proofs.«01_k».proof.Proof.Kernel.Launch
public import proofs.«01_k».proof.Proof.KernelIdeal.Launch
public import proofs.«01_k».proof.Proof.Value.Final
public import proofs.«01_k».proof.Proof.Gen.ReferenceIdeal
public import proofs.«01_k».proof.Proof.Gen.ReferenceIdeal.Run
public import proofs.«01_k».proof.Proof.Gen.Pre_scores_finite_KernelIdeal
public import proofs.«01_k».proof.Proof.Gen.Pre_scores_finite_ReferenceIdeal
public import Idealize.ShloMosaic.Adequacy
public import Idealize.ShloMosaic.Init

@[expose] public section

noncomputable section

namespace Cert.Proof

open Idealize.ShloMosaic Idealize.SL.Sem

/-- The kernel terminates without fault, with its arguments kept and every counter at zero. -/
theorem frame_Kernel : Cert.quiescent_Kernel (hKernel := Cert.Kernel.Gen.facts) := fun m ρ _ =>
  (θ_run _ _ _).mono (fun _ h => ⟨fun c => (h.1 c).2, h.2⟩) (Cert.Kernel.Run.run_returned (F := Bits) m ρ)

/-- So does the kernel over the extended reals. -/
theorem frame_KernelIdeal : Cert.quiescent_KernelIdeal (hKernelIdeal := Cert.KernelIdeal.Gen.facts) := fun m ρ _ =>
  (θ_run _ _ _).mono (fun _ h => ⟨fun c => (h.1 c).2, h.2⟩) (Cert.KernelIdeal.Run.run_returned (F := Ideal) m ρ)

/-- And so it does from memories that meet the precondition. -/
theorem frame_KernelIdeal_pre : Cert.quiescent_KernelIdeal_pre_scores_finite_KernelIdeal
    (hKernelIdeal := Cert.KernelIdeal.Gen.facts) (hPre_scores_finite_KernelIdeal := Cert.Pre_scores_finite_KernelIdeal.Gen.facts) :=
  fun m ρ _ => (θ_run _ _ _).mono (fun _ h => ⟨fun c => (h.1 c).2, h.2⟩) (Cert.KernelIdeal.Run.run_returned (F := Ideal) m ρ)

/-- The reference terminates without fault, with its arguments kept and every counter at zero. -/
theorem frame_ReferenceIdeal : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- And so it does from memories that meet the precondition. -/
theorem frame_ReferenceIdeal_pre : Cert.quiescent_ReferenceIdeal_pre_scores_finite_ReferenceIdeal
    (hReferenceIdeal := Cert.ReferenceIdeal.Gen.facts) (hPre_scores_finite_ReferenceIdeal := Cert.Pre_scores_finite_ReferenceIdeal.Gen.facts) :=
  fun m ρ _ => (θ_run _ _ _).mono (fun r h => ⟨fun c => (h c).2, sem_eq_zero_of_no_sems (by decide) r.2⟩)
    (Cert.ReferenceIdeal.Value.run (F := Ideal) m ρ)

/-- Over the extended reals every device ends with the reference's result. -/
theorem values : Cert.algebraic_KernelIdeal_ReferenceIdeal_pre_scores_finite_KernelIdeal
    (hKernelIdeal := Cert.KernelIdeal.Gen.facts) (hReferenceIdeal := Cert.ReferenceIdeal.Gen.facts)
    (hPre_scores_finite_KernelIdeal := Cert.Pre_scores_finite_KernelIdeal.Gen.facts) := by
  intro m ρ m' ρ' hpre hargs
  have hl : ∀ c, Cert.Value.Launched (Cert.Value.whole m') m c := fun c =>
    ⟨(hargs c).1, (hargs c).2.1, (hargs c).2.2.1, (hargs c).2.2.2.1, (hargs c).2.2.2.2⟩
  have hx : Cert.Value.AllReal (Cert.Value.whole m').x := by
    rw [← (hl 0).x]
    exact Cert.Value.real_x _ _ _ _ _ (hpre 0).1
  have hw : Cert.Value.AllReal (Cert.Value.whole m').w := by
    refine Cert.Value.real_of_blocks _ fun d => ?_
    rw [← (hl d).w]
    exact Cert.Value.real_w _ _ _ _ _ (hpre d).2.1
  have hk : Cert.Value.AllReal (Cert.Value.whole m').k := by
    rw [← (hl 0).k]
    exact Cert.Value.real_k _ _ _ _ _ (hpre 0).2.2
  refine ⟨Cert.ReferenceIdeal.Value.res_out0 m' 0, ?_, ?_⟩
  · refine (θ_run _ _ _).mono (fun r h c => ⟨?_, (h.1 c).2⟩) (Cert.KernelIdeal.Run.run_returned (F := Ideal) m ρ)
    exact ((h.1 c).1.trans (Cert.Value.returned_eq hl hx hw hk c)).trans (Cert.Value.Reference.res_eq_out m' 0).symm
  · exact (θ_run _ _ _).mono (fun r h => h 0) (Cert.ReferenceIdeal.Value.run (F := Ideal) m' ρ')

/-- Every claim of the certificate. -/
theorem claim : Cert.Claim :=
  ⟨Cert.Kernel.Gen.facts, Cert.KernelIdeal.Gen.facts, Cert.ReferenceIdeal.Gen.facts, Cert.Pre_scores_finite_KernelIdeal.Gen.facts,
    Cert.Pre_scores_finite_ReferenceIdeal.Gen.facts, frame_Kernel, frame_KernelIdeal, frame_KernelIdeal_pre, frame_ReferenceIdeal,
    frame_ReferenceIdeal_pre, trivial, values⟩

end Cert.Proof

end
